-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bank_finite [hPre_bank_finite : Cert.Pre_bank_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bank_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bank_finite [hPre_bank_finite : Cert.Pre_bank_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bank_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bank_finite [hKernelIdeal : Cert.KernelIdeal.Facts] [hPre_bank_finite : Cert.Pre_bank_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bank_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bank_finite [hReferenceIdeal : Cert.ReferenceIdeal.Facts] [hPre_bank_finite : Cert.Pre_bank_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bank_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bank_finite [hKernelIdeal : Cert.KernelIdeal.Facts] [hReferenceIdeal : Cert.ReferenceIdeal.Facts] [hPre_bank_finite : Cert.Pre_bank_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bank_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bank_finite : Cert.Pre_bank_finite.Facts),
    quiescent_Kernel (hKernel := hKernel)
    ∧ quiescent_KernelIdeal (hKernelIdeal := hKernelIdeal)
    ∧ quiescent_KernelIdeal_pre_bank_finite (hKernelIdeal := hKernelIdeal) (hPre_bank_finite := hPre_bank_finite)
    ∧ quiescent_ReferenceIdeal (hReferenceIdeal := hReferenceIdeal)
    ∧ quiescent_ReferenceIdeal_pre_bank_finite (hReferenceIdeal := hReferenceIdeal) (hPre_bank_finite := hPre_bank_finite)
    ∧ preserves_Kernel_KernelIdeal
    ∧ algebraic_KernelIdeal_ReferenceIdeal_pre_bank_finite (hKernelIdeal := hKernelIdeal) (hReferenceIdeal := hReferenceIdeal) (hPre_bank_finite := hPre_bank_finite)
-- ==== Pre_bank_finite.lean ====
abbrev S16x128x128x128 : Shape := ⟨4, ![16, 128, 128, 128]⟩
abbrev S16x128x2 : Shape := ⟨3, ![16, 128, 2]⟩
abbrev S16x128 : Shape := ⟨2, ![16, 128]⟩
abbrev S2432x128 : Shape := ⟨2, ![2432, 128]⟩
abbrev S1x128x128 : Shape := ⟨3, ![1, 128, 128]⟩
abbrev S_ : Shape := ⟨0, ![]⟩

class Facts : Prop where
  bcast_S_S2432x128 : S_.BroadcastsInDim S2432x128 (![] : Fin 0 → Fin S2432x128.rank)
  reducesTo_S2432x128_S_d0_1 : S2432x128.ReducesTo [0, 1] S_
  h_S_ : 0 < S_.numel

variable [Facts]

def fn {F : FTy → Type} [FloatOps F] (main_arg0 : FVec F S16x128x128x128 .f32) (main_arg1 : IVec S16x128x2 32) (main_arg2 : FVec F S16x128 .f32) (main_arg3 : IVec S16x128 32) (main_arg4 : FVec F S2432x128 .f32) (main_arg5 : IVec S1x128x128 32) : IVec S_ 1 :=
  let main_v0 : FVec F S2432x128 .f32 := Host.absf main_arg4
  let main_cst : FVec F S_ .f32 := constant S_ .f32 0x7F800000#32
  let main_v1 : FVec F S2432x128 .f32 := broadcastInDim S2432x128 ![] bcast_S_S2432x128 main_cst
  let main_v2 : IVec S2432x128 1 := cmpf .olt main_v0 main_v1
  let main_c : IVec S_ 1 := constantI S_ 1 1#1
  let main_v3 : IVec S_ 1 := (fun x v => Host.reduce IntOp.andi x v reducesTo_S2432x128_S_d0_1 h_S_) main_v2 main_c
  main_v3
-- ==== Kernel.lean ====
abbrev S16x128x128x128 : Shape := ⟨4, ![16, 128, 128, 128]⟩
abbrev S16x128x2 : Shape := ⟨3, ![16, 128, 2]⟩
abbrev S16x128 : Shape := ⟨2, ![16, 128]⟩
abbrev S2432x128 : Shape := ⟨2, ![2432, 128]⟩
abbrev S1x128x128 : Shape := ⟨3, ![1, 128, 128]⟩
abbrev S16x128x1 : Shape := ⟨3, ![16, 128, 1]⟩
abbrev S_ : Shape := ⟨0, ![]⟩
abbrev S16x256 : Shape := ⟨2, ![16, 256]⟩
abbrev S16x128x16384 : Shape := ⟨3, ![16, 128, 16384]⟩
abbrev S16x1x256 : Shape := ⟨3, ![16, 1, 256]⟩
abbrev S16x256x1 : Shape := ⟨3, ![16, 256, 1]⟩
abbrev S1 : Shape := ⟨1, ![1]⟩
abbrev S1x1x1 : Shape := ⟨3, ![1, 1, 1]⟩
abbrev S16x128x256 : Shape := ⟨3, ![16, 128, 256]⟩
abbrev S16x128x2x128 : Shape := ⟨4, ![16, 128, 2, 128]⟩
abbrev S16x2x128x128 : Shape := ⟨4, ![16, 2, 128, 128]⟩
abbrev S128x128 : Shape := ⟨2, ![128, 128]⟩
abbrev S128x1 : Shape := ⟨2, ![128, 1]⟩
abbrev S1x2x128x128 : Shape := ⟨4, ![1, 2, 128, 128]⟩
abbrev S1x128x1 : Shape := ⟨3, ![1, 128, 1]⟩
abbrev S1x1x128x128 : Shape := ⟨4, ![1, 1, 128, 128]⟩
abbrev S128 : Shape := ⟨1, ![128]⟩
abbrev S1x128 : Shape := ⟨2, ![1, 128]⟩
abbrev S128x2432 : Shape := ⟨2, ![128, 2432]⟩
abbrev S128x2048 : Shape := ⟨2, ![128, 2048]⟩
abbrev S384x128 : Shape := ⟨2, ![384, 128]⟩
abbrev S128x384 : Shape := ⟨2, ![128, 384]⟩

abbrev nBuf : Space → Nat
  | .hbm => 63
  | .vmem => 9
  | .smem => 0
  | _ => 0

abbrev bufTy : (tb : Table) → Fin (tcTables nBuf tb) → BufTy
  | .hbm, ⟨0, _⟩ => ⟨S16x128x128x128, .f32⟩
  | .hbm, ⟨1, _⟩ => ⟨S16x128x2, .i32⟩
  | .hbm, ⟨2, _⟩ => ⟨S16x128, .f32⟩
  | .hbm, ⟨3, _⟩ => ⟨S16x128, .i32⟩
  | .hbm, ⟨4, _⟩ => ⟨S2432x128, .f32⟩
  | .hbm, ⟨5, _⟩ => ⟨S1x128x128, .i32⟩
  | .hbm, ⟨6, _⟩ => ⟨S16x128x1, .i32⟩
  | .hbm, ⟨7, _⟩ => ⟨S16x128, .i32⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128x1, .i32⟩
  | .hbm, ⟨12, _⟩ => ⟨S16x128, .i32⟩
  | .hbm, ⟨13, _⟩ => ⟨S16x128, .i32⟩
  | .hbm, ⟨14, _⟩ => ⟨S16x256, .i32⟩
  | .hbm, ⟨15, _⟩ => ⟨S16x128x16384, .f32⟩
  | .hbm, ⟨16, _⟩ => ⟨S16x1x256, .i32⟩
  | .hbm, ⟨17, _⟩ => ⟨S_, .i32⟩
  | .hbm, ⟨18, _⟩ => ⟨S16x1x256, .i32⟩
  | .hbm, ⟨19, _⟩ => ⟨S16x1x256, .i1⟩
  | .hbm, ⟨20, _⟩ => ⟨S_, .i32⟩
  | .hbm, ⟨21, _⟩ => ⟨S16x1x256, .i32⟩
  | .hbm, ⟨22, _⟩ => ⟨S16x1x256, .i32⟩
  | .hbm, ⟨23, _⟩ => ⟨S16x1x256, .i32⟩
  | .hbm, ⟨24, _⟩ => ⟨S16x256x1, .i32⟩
  | .hbm, ⟨25, _⟩ => ⟨S1, .i32⟩
  | .hbm, ⟨26, _⟩ => ⟨S_, .i32⟩
  | .hbm, ⟨27, _⟩ => ⟨S16x256x1, .i32⟩
  | .hbm, ⟨28, _⟩ => ⟨S16x256x1, .i1⟩
  | .hbm, ⟨29, _⟩ => ⟨S1x1x1, .i32⟩
  | .hbm, ⟨30, _⟩ => ⟨S16x256x1, .i32⟩
  | .hbm, ⟨31, _⟩ => ⟨S16x256x1, .i1⟩
  | .hbm, ⟨32, _⟩ => ⟨S16x256x1, .i1⟩
  | .hbm, ⟨33, _⟩ => ⟨S_, .i1⟩
  | .hbm, ⟨34, _⟩ => ⟨S16x256, .i1⟩
  | .hbm, ⟨35, _⟩ => ⟨S16x128x256, .f32⟩
  | .hbm, ⟨36, _⟩ => ⟨S16x128x256, .i1⟩
  | .hbm, ⟨37, _⟩ => ⟨S_, .f32⟩
  | .hbm, ⟨38, _⟩ => ⟨S16x128x256, .f32⟩
  | .hbm, ⟨39, _⟩ => ⟨S16x128x256, .f32⟩
  | .hbm, ⟨40, _⟩ => ⟨S16x128x2x128, .f32⟩
  | .hbm, ⟨41, _⟩ => ⟨S16x2x128x128, .f32⟩
  | .hbm, ⟨42, _⟩ => ⟨S128x128, .i32⟩
  | .hbm, ⟨43, _⟩ => ⟨S128x128, .f32⟩
  | .hbm, ⟨44, _⟩ => ⟨S16x128x1, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x2x128x128, .f32⟩
  | .local _ .vmem, ⟨1, _⟩ => ⟨S1x2x128x128, .f32⟩
  | .local _ .vmem, ⟨2, _⟩ => ⟨S2432x128, .f32⟩
  | .local _ .vmem, ⟨3, _⟩ => ⟨S128x128, .f32⟩
  | .local _ .vmem, ⟨4, _⟩ => ⟨S1x128x1, .f32⟩
  | .local _ .vmem, ⟨5, _⟩ => ⟨S1x128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v16_2 : Ref sig .tc := ⟨.hbm, 47, rfl⟩
abbrev main_cst : Ref sig .tc := ⟨.hbm, 48, rfl⟩
abbrev main_v17 : Ref sig .tc := ⟨.hbm, 49, rfl⟩
abbrev main_cst_0 : Ref sig .tc := ⟨.hbm, 50, rfl⟩
abbrev main_v18 : Ref sig .tc := ⟨.hbm, 51, rfl⟩
abbrev main_cst_1 : Ref sig .tc := ⟨.hbm, 52, rfl⟩
abbrev main_call1_v0 : Ref sig .tc := ⟨.hbm, 53, rfl⟩
abbrev main_v19 : Ref sig .tc := ⟨.hbm, 54, rfl⟩
abbrev main_v20 : Ref sig .tc := ⟨.hbm, 55, rfl⟩
abbrev main_cst_2 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_cst_4 : Ref sig .tc := ⟨.hbm, 60, rfl⟩
abbrev main_v23 : Ref sig .tc := ⟨.hbm, 61, rfl⟩
abbrev main_v24 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x128x128x128 : Shape := ⟨4, ![16, 128, 128, 128]⟩
abbrev S16x128x2 : Shape := ⟨3, ![16, 128, 2]⟩
abbrev S16x128 : Shape := ⟨2, ![16, 128]⟩
abbrev S2432x128 : Shape := ⟨2, ![2432, 128]⟩
abbrev S1x128x128 : Shape := ⟨3, ![1, 128, 128]⟩
abbrev S16x128x16384 : Shape := ⟨3, ![16, 128, 16384]⟩
abbrev S16x16384x128 : Shape := ⟨3, ![16, 16384, 128]⟩
abbrev S16x128x1 : Shape := ⟨3, ![16, 128, 1]⟩
abbrev S_ : Shape := ⟨0, ![]⟩
abbrev S16x256 : Shape := ⟨2, ![16, 256]⟩
abbrev S16x256x1 : Shape := ⟨3, ![16, 256, 1]⟩
abbrev S16x256x128 : Shape := ⟨3, ![16, 256, 128]⟩
abbrev S16x256x128x1 : Shape := ⟨4, ![16, 256, 128, 1]⟩
abbrev S1 : Shape := ⟨1, ![1]⟩
abbrev S1x1x1x1 : Shape := ⟨4, ![1, 1, 1, 1]⟩
abbrev S16x128x128 : Shape := ⟨3, ![16, 128, 128]⟩
abbrev S16x128x2432 : Shape := ⟨3, ![16, 128, 2432]⟩
abbrev S128x128 : Shape := ⟨2, ![128, 128]⟩
abbrev S1x1x1x128x1x128 : Shape := ⟨6, ![1, 1, 1, 128, 1, 128]⟩
abbrev S1x1x1x128x3x128 : Shape := ⟨6, ![1, 1, 1, 128, 3, 128]⟩
abbrev S1x128x384 : Shape := ⟨3, ![1, 128, 384]⟩
abbrev S1x128x2048 : Shape := ⟨3, ![1, 128, 2048]⟩
abbrev S1x128x2432 : Shape := ⟨3, ![1, 128, 2432]⟩
abbrev S128 : Shape := ⟨1, ![128]⟩
abbrev S1x128x1 : Shape := ⟨3, ![1, 128, 1]⟩
abbrev S16x128x1x1 : Shape := ⟨4, ![16, 128, 1, 1]⟩
abbrev S384x128 : Shape := ⟨2, ![384, 128]⟩
abbrev S16x128x384 : Shape := ⟨3, ![16, 128, 384]⟩

abbrev nBuf : Space → Nat
  | .hbm => 155
  | .vmem => 0
  | .smem => 0
  | _ => 0

abbrev hbmTy0_0 (i : Nat) : BufTy := match i % 128 with
  | 0 => ⟨S16x128x128x128, .f32⟩
  | 1 => ⟨S16x128x2, .i32⟩
  | 2 => ⟨S16x128, .f32⟩
  | 3 => ⟨S16x128, .i32⟩
  | 4 => ⟨S2432x128, .f32⟩
  | 5 => ⟨S1x128x128, .i32⟩
  | 6 => ⟨S16x128x16384, .f32⟩
  | 7 => ⟨S16x16384x128, .f32⟩
  | 8 => ⟨S16x128x1, .i32⟩
  | 9 => ⟨S16x128, .i32⟩
  | 10 => ⟨S_, .i32⟩
  | 11 => ⟨S16x128, .i32⟩
  | 12 => ⟨S16x128, .i32⟩
  | 13 => ⟨S16x128x1, .i32⟩
  | 14 => ⟨S16x128, .i32⟩
  | 15 => ⟨S16x128, .i32⟩
  | 16 => ⟨S16x256, .i32⟩
  | 17 => ⟨S16x256x1, .i32⟩
  | 18 => ⟨S16x256x128, .i32⟩
  | 19 => ⟨S_, .i32⟩
  | 20 => ⟨S16x256x128, .i32⟩
  | 21 => ⟨S16x256x128, .i1⟩
  | 22 => ⟨S_, .i32⟩
  | 23 => ⟨S16x256x128, .i32⟩
  | 24 => ⟨S16x256x128, .i32⟩
  | 25 => ⟨S16x256x128, .i32⟩
  | 26 => ⟨S16x256x128x1, .i32⟩
  | 27 => ⟨S1, .i32⟩
  | 28 => ⟨S_, .i32⟩
  | 29 => ⟨S16x256x128x1, .i32⟩
  | 30 => ⟨S16x256x128x1, .i1⟩
  | 31 => ⟨S1x1x1x1, .i32⟩
  | 32 => ⟨S16x256x128x1, .i32⟩
  | 33 => ⟨S16x256x128x1, .i1⟩
  | 34 => ⟨S16x256x128x1, .i1⟩
  | 35 => ⟨S_, .i1⟩
  | 36 => ⟨S16x256x128, .i1⟩
  | 37 => ⟨S16x256x128, .f32⟩
  | 38 => ⟨S_, .f32⟩
  | 39 => ⟨S16x256x128, .f32⟩
  | 40 => ⟨S16x256x128, .f32⟩
  | 41 => ⟨S16x256x128, .f32⟩
  | 42 => ⟨S_, .f32⟩
  | 43 => ⟨S16x256, .f32⟩
  | 44 => ⟨S16x256x1, .f32⟩
  | 45 => ⟨S16x256x1, .f32⟩
  | 46 => ⟨S_, .f32⟩
  | 47 => ⟨S_, .f32⟩
  | 48 => ⟨S16x256x1, .f32⟩
  | 49 => ⟨S16x256x1, .f32⟩
  | 50 => ⟨S16x256x128, .f32⟩
  | 51 => ⟨S16x256x128, .f32⟩
  | 52 => ⟨S16x128x128, .f32⟩
  | 53 => ⟨S16x128x128, .f32⟩
  | 54 => ⟨S16x128x2432, .f32⟩
  | 55 => ⟨S_, .f32⟩
  | 56 => ⟨S16x128x2432, .f32⟩
  | 57 => ⟨S16x128x2432, .f32⟩
  | 58 => ⟨S128x128, .i32⟩
  | 59 => ⟨S128x128, .i32⟩
  | 60 => ⟨S_, .i32⟩
  | 61 => ⟨S128x128, .i32⟩
  | 62 => ⟨S128x128, .i32⟩
  | 63 => ⟨S128x128, .i1⟩
  | 64 => ⟨S128x128, .f32⟩
  | 65 => ⟨S1x128x128, .f32⟩
  | 66 => ⟨S1x128x128, .f32⟩
  | 67 => ⟨S_, .f32⟩
  | 68 => ⟨S1x128x128, .f32⟩
  | 69 => ⟨S1x128x128, .f32⟩
  | 70 => ⟨S1x128x128, .f32⟩
  | 71 => ⟨S1x1x1x128x1x128, .f32⟩
  | 72 => ⟨S1x1x1x128x3x128, .f32⟩
  | 73 => ⟨S1x128x384, .f32⟩
  | 74 => ⟨S_, .f32⟩
  | 75 => ⟨S1x128x384, .f32⟩
  | 76 => ⟨S1x128x384, .f32⟩
  | 77 => ⟨S_, .f32⟩
  | 78 => ⟨S1x128x2048, .f32⟩
  | 79 => ⟨S1x128x2048, .f32⟩
  | 80 => ⟨S_, .f32⟩
  | 81 => ⟨S1x128x2048, .f32⟩
  | 82 => ⟨S1x128x2048, .f32⟩
  | 83 => ⟨S1x128x2432, .f32⟩
  | 84 => ⟨S16x128x2432, .f32⟩
  | 85 => ⟨S16x128x2432, .f32⟩
  | 86 => ⟨S128, .i32⟩
  | 87 => ⟨S_, .f32⟩
  | 88 => ⟨S16x128, .f32⟩
  | 89 => ⟨S_, .f32⟩
  | 90 => ⟨S16x128, .f32⟩
  | 91 => ⟨S16x128, .f32⟩
  | 92 => ⟨S16x128x1, .f32⟩
  | 93 => ⟨S16x128x2432, .f32⟩
  | 94 => ⟨S16x128x2432, .f32⟩
  | 95 => ⟨S16x128x2432, .f32⟩
  | 96 => ⟨S_, .f32⟩
  | 97 => ⟨S16x128, .f32⟩
  | 98 => ⟨S16x128x1, .f32⟩
  | 99 => ⟨S16x128x1, .f32⟩
  | 100 => ⟨S16x128x2432, .f32⟩
  | 101 => ⟨S16x128x2432, .f32⟩
  | 102 => ⟨S1x128x1, .i32⟩
  | 103 => ⟨S16x128x1, .i32⟩
  | 104 => ⟨S_, .i32⟩
  | 105 => ⟨S16x128x1, .i32⟩
  | 106 => ⟨S16x128x1, .i1⟩
  | 107 => ⟨S_, .i32⟩
  | 108 => ⟨S16x128x1, .i32⟩
  | 109 => ⟨S16x128x1, .i32⟩
  | 110 => ⟨S16x128x1, .i32⟩
  | 111 => ⟨S16x128x1x1, .i32⟩
  | 112 => ⟨S1, .i32⟩
  | 113 => ⟨S_, .i32⟩
  | 114 => ⟨S16x128x1x1, .i32⟩
  | 115 => ⟨S16x128x1x1, .i1⟩
  | 116 => ⟨S1x1x1x1, .i32⟩
  | 117 => ⟨S16x128x1x1, .i32⟩
  | 118 => ⟨S16x128x1x1, .i1⟩
  | 119 => ⟨S16x128x1x1, .i1⟩
  | 120 => ⟨S_, .i1⟩
  | 121 => ⟨S16x128x1, .i1⟩
  | 122 => ⟨S16x128x1, .f32⟩
  | 123 => ⟨S_, .f32⟩
  | 124 => ⟨S16x128x1, .f32⟩
  | 125 => ⟨S16x128x1, .f32⟩
  | 126 => ⟨S16x128, .f32⟩
  | 127 => ⟨S16x128, .f32⟩
  | _ => ⟨S16x128x128x128, .f32⟩

abbrev hbmTy0_1 (i : Nat) : BufTy := match i % 128 with
  | 0 => ⟨S16x128, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S384x128, .f32⟩
  | 10 => ⟨S16x128x384, .f32⟩
  | 11 => ⟨S_, .f32⟩
  | 12 => ⟨S16x128x384, .f32⟩
  | 13 => ⟨S16x128x384, .f32⟩
  | 14 => ⟨S16x128x384, .f32⟩
  | 15 => ⟨S_, .f32⟩
  | 16 => ⟨S16x128, .f32⟩
  | 17 => ⟨S16x128, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S16x128x128x128, .f32⟩

abbrev hbmTy (i : Nat) : BufTy := match i / 128 with
  | 0 => hbmTy0_0 i
  | 1 => hbmTy0_1 i
  | _ => ⟨S16x128x128x128, .f32⟩

abbrev bufTy : (tb : Table) → Fin (tcTables nBuf tb) → BufTy
  | .hbm, ⟨i, _⟩ => hbmTy i
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v13 : Ref sig .tc := ⟨.hbm, 45, rfl⟩
abbrev main_cst : Ref sig .tc := ⟨.hbm, 46, rfl⟩
abbrev main_call2_v0 : Ref sig .tc := ⟨.hbm, 47, rfl⟩
abbrev main_call2_v1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_cst_5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call3_cst : Ref sig .tc := ⟨.hbm, 87, rfl⟩
abbrev main_call3_v0 : Ref sig .tc := ⟨.hbm, 88, rfl⟩
abbrev main_call3_cst_0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_cst_1 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_cst : Ref sig .tc := ⟨.hbm, 123, rfl⟩
abbrev main_call4_v14 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_6 : Ref sig .tc := ⟨.hbm, 129, rfl⟩
abbrev main_v53 : Ref sig .tc := ⟨.hbm, 130, rfl⟩
abbrev main_cst_7 : Ref sig .tc := ⟨.hbm, 131, rfl⟩
abbrev main_v54 : Ref sig .tc := ⟨.hbm, 132, rfl⟩
abbrev main_cst_8 : Ref sig .tc := ⟨.hbm, 133, rfl⟩
abbrev main_call5_v0 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_9 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_cst_10 : Ref sig .tc := ⟨.hbm, 143, rfl⟩
abbrev main_v62 : Ref sig .tc := ⟨.hbm, 144, rfl⟩
abbrev main_v63 : Ref sig .tc := ⟨.hbm, 145, rfl⟩
abbrev main_cst_11 : Ref sig .tc := ⟨.hbm, 146, rfl⟩
abbrev main_v64 : Ref sig .tc := ⟨.hbm, 147, rfl⟩
abbrev main_cst_12 : Ref sig .tc := ⟨.hbm, 148, rfl⟩
abbrev main_v65 : Ref sig .tc := ⟨.hbm, 149, rfl⟩
abbrev main_cst_13 : Ref sig .tc := ⟨.hbm, 150, rfl⟩
abbrev main_v66 : Ref sig .tc := ⟨.hbm, 151, rfl⟩
abbrev main_cst_14 : Ref sig .tc := ⟨.hbm, 152, rfl⟩
abbrev main_v67 : Ref sig .tc := ⟨.hbm, 153, rfl⟩
abbrev main_v68 : Ref sig .tc := ⟨.hbm, 154, rfl⟩

abbrev nD : Nat := 1
abbrev τ : Topo := Topo.v7x

variable {F : FTy → Type} [FloatOps F]
-- ==== Proof.Rows.lean ====
/- The loss of one keypoint as a function of its feature vector, the bank and the mask row, over the extended reals; that
   a normalised vector is always real; and the two ways of writing the cross entropy of a row of reals. -/
module

public import Idealize.ShloMosaic.PureOps.Ideal
public import Idealize.ShloMosaic.PureOps.Ideal.Laws
public import Mathlib.Data.EReal.Operations

@[expose] public section

noncomputable section

namespace Cert.Rows

open Idealize.ShloMosaic
open scoped BigOperators

/-! ## The constants -/

/-- The least norm, about `1e-12`. -/
abbrev cEps : EReal := Ideal.ofBits .f32 730643660#32
/-- The temperature, about `0.07`. -/
abbrev cTemp : EReal := Ideal.ofBits .f32 1032805417#32
/-- The mask's weight, `1e5`. -/
abbrev cMask : EReal := Ideal.ofBits .f32 1203982336#32
/-- The shift of the negatives, about `5.3`. -/
abbrev cNeg : EReal := Ideal.ofBits .f32 1084853201#32

theorem cEps_pos : ∃ r : ℝ, 0 < r ∧ cEps = (r : EReal) := by
  simp [cEps, Ideal.ofBits, Ideal.ieee, -EReal.coe_mul]
theorem cTemp_pos : ∃ r : ℝ, 0 < r ∧ cTemp = (r : EReal) := by
  simp [cTemp, Ideal.ofBits, Ideal.ieee, -EReal.coe_mul]

/-- An extended real that is a real number. -/
def Real' (x : EReal) : Prop := ∃ r : ℝ, x = (r : EReal)

theorem cMask_real : Real' cMask := by
  simp [Real', cMask, Ideal.ofBits, Ideal.ieee, -EReal.coe_mul]
theorem cNeg_real : Real' cNeg := by
  simp [Real', cNeg, Ideal.ofBits, Ideal.ieee, -EReal.coe_mul]
theorem cNeg_flip : (-1 : EReal) * Ideal.ofBits .f32 0xC0A98BD1#32 = cNeg := by
  rw [show (-1 : EReal) = ((-1 : ℝ) : EReal) by rw [EReal.coe_neg, EReal.coe_one]]
  simp [cNeg, Ideal.ofBits, Ideal.ieee, -EReal.coe_mul, -EReal.coe_neg]
  rw [← EReal.coe_mul]
  norm_num

theorem Real'.mul {x y : EReal} (hx : Real' x) (hy : Real' y) : Real' (x * y) := by
  obtain ⟨a, rfl⟩ := hx; obtain ⟨b, rfl⟩ := hy; exact ⟨a * b, by push_cast; rfl⟩
theorem Real'.add {x y : EReal} (hx : Real' x) (hy : Real' y) : Real' (x + y) := by
  obtain ⟨a, rfl⟩ := hx; obtain ⟨b, rfl⟩ := hy; exact ⟨a + b, by push_cast; rfl⟩
theorem Real'.sub {x y : EReal} (hx : Real' x) (hy : Real' y) : Real' (x - y) := by
  obtain ⟨a, rfl⟩ := hx; obtain ⟨b, rfl⟩ := hy; exact ⟨a - b, by push_cast; rfl⟩
theorem Real'.zero : Real' 0 := ⟨0, rfl⟩
theorem Real'.one : Real' 1 := ⟨1, rfl⟩
theorem Real'.sum {ι : Type} (s : Finset ι) (f : ι → EReal) (h : ∀ i ∈ s, Real' (f i)) : Real' (∑ i ∈ s, f i) :=
  Finset.sum_induction f Real' (fun _ _ => Real'.add) Real'.zero h
theorem Real'.div {x y : EReal} (hx : Real' x) (hy : ∃ r : ℝ, 0 < r ∧ y = (r : EReal)) : Real' (Ideal.div x y) := by
  obtain ⟨r, hr, rfl⟩ := hy
  rw [Ideal.div_coe hr.ne']
  exact hx.mul ⟨_, rfl⟩
theorem not_real {x : EReal} (h : ¬Real' x) : x = ⊤ ∨ x = ⊥ := by
  induction x with
  | bot => exact .inr rfl
  | top => exact .inl rfl
  | coe r => exact absurd ⟨r, rfl⟩ h

theorem mul_self_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-! ## A row's similarities -/

/-- A vector over its norm, the norm at least `cEps`. -/
def unit (v : Fin 128 → EReal) (c : Fin 128) : EReal := Ideal.div (v c) (max (Ideal.sqrt (∑ x, v x * v x)) cEps)

/-- A normalised vector is real, whatever the vector: where an entry is infinite the norm is, and the quotients are 0. -/
theorem unit_real (v : Fin 128 → EReal) (c : Fin 128) : Real' (unit v c) := by
  unfold unit
  by_cases h : ∀ x, Real' (v x)
  · refine (h c).div ?_
    obtain ⟨s, hs⟩ : Real' (∑ x, v x * v x) := Real'.sum _ _ fun x _ => (h x).mul (h x)
    have h0 : 0 ≤ s := by
      have : (0 : EReal) ≤ ∑ x, v x * v x := Finset.sum_nonneg fun x _ => mul_self_nonneg' (v x)
      rw [hs] at this; exact EReal.coe_nonneg.mp this
    obtain ⟨e, he, hE⟩ := cEps_pos
    rw [hs, hE, Ideal.sqrt_coe, if_neg (not_lt.mpr h0)]
    refine ⟨max (Real.sqrt s) e, lt_max_of_lt_right he, ?_⟩
    exact (EReal.coe_strictMono.monotone.map_max).symm
  · obtain ⟨x, hx⟩ := not_forall.mp h
    have hT : v x * v x = ⊤ := by
      rcases not_real hx with e | e <;> rw [e]
      · exact EReal.top_mul_top
      · exact EReal.bot_mul_bot
    have hS : ∑ x, v x * v x = ⊤ := by
      refine top_le_iff.mp ?_
      rw [← hT]
      exact Finset.single_le_sum (f := fun x => v x * v x) (fun i _ => mul_self_nonneg' (v i)) (Finset.mem_univ x)
    rw [hS]
    refine ⟨0, ?_⟩
    show Ideal.div (v c) (max ⊤ cEps) = _
    rw [max_eq_left le_top]
    unfold Ideal.div
    rw [if_neg EReal.top_ne_zero, EReal.inv_top, mul_zero]
    rfl

/-- The similarity of a feature vector with one row of the bank. -/
def sim (f b : Fin 128 → EReal) : EReal := Ideal.div (∑ c, f c * b c) cTemp

theorem sim_real {f b : Fin 128 → EReal} (hf : ∀ c, Real' (f c)) (hb : ∀ c, Real' (b c)) : Real' (sim f b) :=
  (Real'.sum _ _ fun c _ => (hf c).mul (hb c)).div cTemp_pos

/-! ## The cross entropy of a row -/

variable {n : ℕ}

/-- The greatest entry of a row, from `⊥`. -/
def top (l : Fin n → EReal) : EReal := Finset.fold max ⊥ l Finset.univ

theorem top_real (l : Fin n → EReal) (h : ∀ i, Real' (l i)) (k : Fin n) : Real' (top l) := by
  classical
  have key : ∀ s : Finset (Fin n), Finset.fold max ⊥ l s = ⊥ ∧ s = ∅ ∨ Real' (Finset.fold max ⊥ l s) := by
    intro s
    induction s using Finset.induction_on with
    | empty => exact .inl ⟨Finset.fold_empty, rfl⟩
    | insert a s ha ih =>
      rw [Finset.fold_insert ha]
      rcases ih with ⟨e, -⟩ | e
      · rw [e, max_eq_left bot_le]; exact .inr (h a)
      · right
        rcases max_choice (l a) (Finset.fold max ⊥ l s) with e' | e' <;> rw [e']
        · exact h a
        · exact e
  rcases key Finset.univ with ⟨-, e⟩ | e
  · exact absurd e (Finset.ne_empty_of_mem (Finset.mem_univ k))
  · exact e

/-- The log of the sum of exponentials, by its definition. -/
def lse (l : Fin n → EReal) : EReal := Ideal.log (∑ x, Ideal.exp (l x))

theorem log_pos {r : ℝ} (h : 0 < r) : Ideal.log (r : EReal) = (Real.log r : EReal) := by
  rw [Ideal.log_coe, if_neg (not_le.mpr h)]

theorem exp_sum_real (l : Fin n → ℝ) : ∑ x, Ideal.exp ((l x : ℝ) : EReal) = ((∑ x, Real.exp (l x) : ℝ) : EReal) := by
  simp only [Ideal.exp_coe]
  exact (map_sum (⟨⟨fun r : ℝ => (r : EReal), EReal.coe_zero⟩, EReal.coe_add⟩ : ℝ →+ EReal) _ _).symm

/-- For a row of reals and any real shift, the log of the sum of the shifted exponentials plus the shift is the log of the
    sum of exponentials. -/
theorem lse_shift (l : Fin n → EReal) (h : ∀ i, Real' (l i)) (k : Fin n) {M : EReal} (hM : Real' M) :
    Ideal.log (∑ x, Ideal.exp (l x - M)) + M = lse l := by
  choose r hr using h
  obtain ⟨m, rfl⟩ := hM
  have e1 : ∑ x, Ideal.exp (l x - m) = ((∑ x, Real.exp (r x - m) : ℝ) : EReal) := by
    rw [← exp_sum_real]
    exact Finset.sum_congr rfl fun x _ => by rw [hr x, EReal.coe_sub]
  have e2 : ∑ x, Ideal.exp (l x) = ((∑ x, Real.exp (r x) : ℝ) : EReal) := by
    rw [← exp_sum_real]
    exact Finset.sum_congr rfl fun x _ => by rw [hr x]
  have p2 : 0 < ∑ x, Real.exp (r x) := Finset.sum_pos (fun _ _ => Real.exp_pos _) ⟨k, Finset.mem_univ k⟩
  have e3 : ∑ x, Real.exp (r x - m) = (∑ x, Real.exp (r x)) / Real.exp m := by
    rw [Finset.sum_div]; exact Finset.sum_congr rfl fun x _ => Real.exp_sub _ _
  unfold lse
  rw [e1, e2, e3, log_pos (div_pos p2 (Real.exp_pos m)), log_pos p2, Real.log_div p2.ne' (Real.exp_pos m).ne', Real.log_exp,
    ← EReal.coe_add]
  congr 1; ring

theorem lse_real (l : Fin n → EReal) (h : ∀ i, Real' (l i)) (k : Fin n) : Real' (lse l) := by
  choose r hr using h
  have e2 : ∑ x, Ideal.exp (l x) = ((∑ x, Real.exp (r x) : ℝ) : EReal) := by
    rw [← exp_sum_real]
    exact Finset.sum_congr rfl fun x _ => by rw [hr x]
  unfold lse
  rw [e2, log_pos (Finset.sum_pos (fun _ _ => Real.exp_pos _) ⟨k, Finset.mem_univ k⟩)]
  exact ⟨_, rfl⟩

/-- The cross entropy at entry `k` as the log of the sum of exponentials less the entry, and as the negated log-softmax
    taken with any real shift, agree on a row of reals. -/
theorem nll_eq (l : Fin n → EReal) (h : ∀ i, Real' (l i)) (k : Fin n) {M : EReal} (hM : Real' M) :
    -((l k - M) - Ideal.log (∑ x, Ideal.exp (l x - M))) = lse l - l k := by
  have e := lse_shift l h k hM
  obtain ⟨b, hb⟩ : Real' (Ideal.log (∑ x, Ideal.exp (l x - M))) := by
    choose r hr using h
    obtain ⟨m, rfl⟩ := hM
    have e1 : ∑ x, Ideal.exp (l x - m) = ((∑ x, Real.exp (r x - m) : ℝ) : EReal) := by
      rw [← exp_sum_real]
      exact Finset.sum_congr rfl fun x _ => by rw [hr x, EReal.coe_sub]
    rw [e1, log_pos (Finset.sum_pos (fun _ _ => Real.exp_pos _) ⟨k, Finset.mem_univ k⟩)]
    exact ⟨_, rfl⟩
  obtain ⟨a, ha⟩ := h k
  obtain ⟨m, rfl⟩ := hM
  rw [← e, hb, ha]
  norm_cast
  ring

end Cert.Rows

end
-- ==== Proof.Features.lean ====
/- The gathered feature vectors: what the kernel gathers from the channel-first array and the reference from the
   channel-last one is, at image `n`, position `k` and channel `c`, one entry of the feature map, read at the same index. -/
module

public import proofs.«01_k».proof.Proof.Gen.ReferenceIdeal.Read
public import proofs.«01_k».proof.Proof.Gen.KernelIdeal.Frame
public import Idealize.ShloMosaic.Lib.Pointwise
public import Idealize.ShloMosaic.Lib.ValueIdx
public import Idealize.ShloMosaic.Lib.StableHlo.Run

@[expose] public section

noncomputable section

namespace Cert.Features

open Idealize.ShloMosaic Idealize.ShloMosaic.TcCoe Idealize.SL.Sem

/-- The feature map's shape, and those of the two index tables. -/
abbrev SX : Shape := ⟨4, ![16, 128, 128, 128]⟩
abbrev SP : Shape := ⟨3, ![16, 128, 2]⟩
abbrev SQ : Shape := ⟨2, ![16, 128]⟩

/-- The position read at place `k` of image `n`: a keypoint's row times 128 plus its column, or a noise position. -/
def place (x1 : IVec SP 32) (x3 : IVec SQ 32) (n : Fin 16) (k : Fin 256) : BitVec 32 :=
  if h : k.val < 128 then IntOp.addi (IntOp.muli (x1 (ix3 n ⟨k.val, h⟩ 0)) 128#32) (x1 (ix3 n ⟨k.val, h⟩ 1))
  else x3 (ix2 n ⟨k.val - 128, by omega⟩)
/-- A negative position counts from the end. -/
def wrap (b : BitVec 32) : BitVec 32 := Scalar.select (IntOp.cmpi .slt b 0#32) (IntOp.addi b 16384#32) b
/-- Whether a position lies in the map. -/
def inMap (b : BitVec 32) : BitVec 1 := IntOp.andi (IntOp.cmpi .sge b 0#32) (IntOp.cmpi .sle b 16383#32)
/-- A position forced into the map. -/
def cell (b : BitVec 32) : Fin 16384 := ⟨min b.toInt.toNat 16383, by omega⟩
/-- The feature read at place `k` of image `n`, channel `c`. -/
def feat (x0 : FVec Ideal SX .f32) (x1 : IVec SP 32) (x3 : IVec SQ 32) (n : Fin 16) (k : Fin 256) (c : Fin 128) : EReal :=
  Scalar.select (inMap (wrap (place x1 x3 n k)))
    (x0 (ix4 n c ⟨(cell (wrap (place x1 x3 n k))).val / 128, by omega⟩ ⟨(cell (wrap (place x1 x3 n k))).val % 128, by omega⟩))
    (Ideal.ofBits .f32 2143289344#32)

/-- The fold by `and` over an axis of extent one is its one entry. -/
theorem fold_one (b : BitVec 1) : Finset.fold IntOp.andi (1#1) (fun _ : Fin 1 => b) Finset.univ = b := by
  rw [show (Finset.univ : Finset (Fin 1)) = {0} from rfl, Finset.fold_singleton]
  revert b; decide

/-! ## The reference's gather -/

section Reference
open Cert.ReferenceIdeal Cert.ReferenceIdeal.Gen Cert.ReferenceIdeal.Read

/-- The reference's gather at an index: the operand at the clamped start index. -/
theorem ref_gather {α : Type} (x : S16x16384x128.Idx → α) (idx : IVec S16x256x128x1 32) (n : Fin 16) (k : Fin 256) (c : Fin 128) :
    Host.gather gather_S16x16384x128_S16x256x128x1_S16x256x128_n_1_02_02_1_3_111 x idx (ix3 n k c)
      = x (ix3 n (cell (idx (ix4 n k c 0))) c) := by
  show x _ = x _
  congr 1
  have hs : ∀ q, (gather_S16x16384x128_S16x256x128x1_S16x256x128_n_1_02_02_1_3_111).siIdx (ix3 n k c) q = ix4 n k c 0 := by
    intro q
    funext b
    match b with
    | ⟨0, _⟩ => rfl
    | ⟨1, _⟩ => rfl
    | ⟨2, _⟩ => rfl
    | ⟨3, _⟩ => exact Subsingleton.elim (α := Fin 1) _ _
  funext a
  match a with
  | ⟨0, _⟩ => exact Fin.ext (by show 0 + n.val + 0 = n.val; omega)
  | ⟨1, _⟩ => exact Fin.ext (by
      show min (idx ((gather_S16x16384x128_S16x256x128x1_S16x256x128_n_1_02_02_1_3_111).siIdx (ix3 n k c) _)).toInt.toNat 16383 + 0 + 0 = _
      rw [hs]
      rfl)
  | ⟨2, _⟩ => exact Fin.ext (by show 0 + c.val + 0 = c.val; omega)

theorem ref_place (x1 : IVec SP 32) (x3 : IVec SQ 32) (n : Fin 16) (k : Fin 256) :
    val_main_v9 (F := Ideal) x1 x3 (ix2 n k) = place x1 x3 n k := by
  unfold val_main_v9 val_main_v8 val_main_v7 val_main_v6 val_main_v5 val_main_v4 val_main_v3 val_main_v2 val_main_c
  pointwise
  rfl

theorem ref_index (x1 : IVec SP 32) (x3 : IVec SQ 32) (n : Fin 16) (k : Fin 256) (c : Fin 128) :
    val_main_call0_v5 (F := Ideal) x1 x3 (ix4 n k c 0) = wrap (place x1 x3 n k) := by
  rw [← ref_place]
  unfold val_main_call0_v5 val_main_call0_v4 val_main_call0_v3 val_main_call0_v2 val_main_call0_v1 val_main_call0_v0 val_main_call0_c val_main_call0_c_0
    val_main_v11 val_main_v10
  pointwise
  rfl

theorem ref_map (x0 : FVec Ideal SX .f32) (n : Fin 16) (j : Fin 16384) (c : Fin 128) :
    val_main_v1 (F := Ideal) x0 (ix3 n j c) = x0 (ix4 n c ⟨j.val / 128, by omega⟩ ⟨j.val % 128, by omega⟩) := by
  rw [val_main_v1_apply, val_main_v0_apply]
  congr 1
  funext a
  have hn := n.isLt
  have hc := c.isLt
  have hj := j.isLt
  match a with
  | ⟨0, _⟩ => exact Fin.ext (by show ((n.val * 128 + c.val) * 16384 + j.val) / 2097152 = n.val; omega)
  | ⟨1, _⟩ => exact Fin.ext (by show ((n.val * 128 + c.val) * 16384 + j.val) / 16384 % 128 = c.val; omega)
  | ⟨2, _⟩ => exact Fin.ext (by show ((n.val * 128 + c.val) * 16384 + j.val) / 128 % 128 = j.val / 128; omega)
  | ⟨3, _⟩ => exact Fin.ext (by show ((n.val * 128 + c.val) * 16384 + j.val) % 128 = j.val % 128; omega)

/-- The reference's gathered array at an index. -/
theorem ref_feat (x0 : FVec Ideal SX .f32) (x1 : IVec SP 32) (x3 : IVec SQ 32) (n : Fin 16) (k : Fin 256) (c : Fin 128) :
    val_main_v12 (F := Ideal) x0 x1 x3 (ix3 n k c) = feat x0 x1 x3 n k c := by
  have hm : val_main_call0_v12 (F := Ideal) x1 x3 (ix3 n k c) = inMap (wrap (place x1 x3 n k)) := by
    rw [← ref_place]
    unfold val_main_call0_v12 val_main_call0_v11 val_main_call0_v10 val_main_call0_v9 val_main_call0_v8 val_main_call0_v7 val_main_call0_v6
      val_main_call0_v5 val_main_call0_v4 val_main_call0_v3 val_main_call0_v2 val_main_call0_v1 val_main_call0_v0 val_main_call0_c
      val_main_call0_c_0 val_main_call0_c_1 val_main_call0_c_2 val_main_call0_c_3 val_main_v11 val_main_v10
    pointwise
    exact fold_one _
  rw [val_main_v12_apply, hm]
  unfold val_main_call0_v13
  rw [ref_gather, ref_index, ref_map]
  rfl

end Reference

/-! ## The kernel's gather -/

section Kernel
open Cert.KernelIdeal Cert.KernelIdeal.Gen

/-- The kernel's gather at an index: the operand at the clamped start index. -/
theorem ker_gather {α : Type} (x : S16x128x16384.Idx → α) (idx : IVec S16x256x1 32) (n : Fin 16) (c : Fin 128) (k : Fin 256) :
    Host.gather gather_S16x128x16384_S16x256x1_S16x128x256_1_2_0_0_2_2_11281 x idx (ix3 n c k)
      = x (ix3 n c (cell (idx (ix3 n k 0)))) := by
  show x _ = x _
  congr 1
  have hs : ∀ q, (gather_S16x128x16384_S16x256x1_S16x128x256_1_2_0_0_2_2_11281).siIdx (ix3 n c k) q = ix3 n k 0 := by
    intro q
    funext b
    match b with
    | ⟨0, _⟩ => rfl
    | ⟨1, _⟩ => rfl
    | ⟨2, _⟩ => exact Subsingleton.elim (α := Fin 1) _ _
  funext a
  match a with
  | ⟨0, _⟩ => exact Fin.ext (by show 0 + n.val + 0 = n.val; omega)
  | ⟨1, _⟩ => exact Fin.ext (by show 0 + 0 + c.val = c.val; omega)
  | ⟨2, _⟩ => exact Fin.ext (by
      show min (idx ((gather_S16x128x16384_S16x256x1_S16x128x256_1_2_0_0_2_2_11281).siIdx (ix3 n c k) _)).toInt.toNat 16383 + 0 + 0 = _
      rw [hs]
      rfl)

section
variable {F : FTy → Type} [FloatOps F]

/-- The positions, keypoints' before the noise's. -/
def kPlaces (x1 : IVec S16x128x2 32) (x3 : IVec S16x128 32) : IVec S16x256 32 :=
  concatenate S16x256 1 [⟨S16x128, addi (muli (shapeCast S16x128 (extractStridedSlice S16x128x1 ![0, 0, 0] x1 slices_S16x128x2_S16x128x1_0_0_0) shapeCasts_S16x128x1_S16x128)
      (broadcastInDim S16x128 ![] bcast_S_S16x128 (constantI S_ 32 128#32)))
      (shapeCast S16x128 (extractStridedSlice S16x128x1 ![0, 0, 1] x1 slices_S16x128x2_S16x128x1_0_0_1) shapeCasts_S16x128x1_S16x128)⟩,
    ⟨S16x128, x3⟩] concatenates_S16x128_S16x128_S16x256_d1
/-- The positions along a unit axis. -/
def kPlaces1 (x1 : IVec S16x128x2 32) (x3 : IVec S16x128 32) : IVec S16x1x256 32 :=
  broadcastInDim S16x1x256 ![0, 2] bcast_S16x256_S16x1x256_0_2 (kPlaces x1 x3)
/-- The gather's start indices. -/
def kStarts (x1 : IVec S16x128x2 32) (x3 : IVec S16x128 32) : IVec S16x256x1 32 :=
  shapeCast S16x256x1 (select (cmpi .slt (kPlaces1 x1 x3) (broadcastInDim S16x1x256 ![] bcast_S_S16x1x256 (constantI S_ 32 0#32)))
      (addi (kPlaces1 x1 x3) (broadcastInDim S16x1x256 ![] bcast_S_S16x1x256 (constantI S_ 32 16384#32))) (kPlaces1 x1 x3))
    shapeCasts_S16x1x256_S16x256x1
/-- Whether each start index lies in the map. -/
def kInMap (x1 : IVec S16x128x2 32) (x3 : IVec S16x128 32) : IVec S16x256 1 :=
  Host.reduce IntOp.andi
    (andi (cmpi .sge (kStarts x1 x3) (broadcastInDim S16x256x1 ![] bcast_S_S16x256x1 (constantI S_ 32 0#32)))
      (cmpi .sle (kStarts x1 x3) (broadcastInDim S16x256x1 ![0, 1, 2] bcast_S1x1x1_S16x256x1_0_1_2
        (broadcastInDim S1x1x1 ![2] bcast_S1_S1x1x1_2 (constantI S1 32 16383#32)))))
    (constantI S_ 1 1#1) reducesTo_S16x256x1_S16x256_d2 h_S_
/-- The gathered array, channels before positions. -/
def kGathered (x0 : Vec F S16x128x128x128 .f32) (x1 : IVec S16x128x2 32) (x3 : IVec S16x128 32) : Vec F S16x128x256 .f32 :=
  select (broadcastInDim S16x128x256 ![0, 2] bcast_S16x256_S16x128x256_0_2 (kInMap x1 x3))
    (Host.gather gather_S16x128x16384_S16x256x1_S16x128x256_1_2_0_0_2_2_11281
      (shapeCast S16x128x16384 x0 shapeCasts_S16x128x128x128_S16x128x16384) (kStarts x1 x3))
    (broadcastInDim S16x128x256 ![] bcast_S_S16x128x256 (constant S_ .f32 0x7FC00000#32))
/-- The array the kernel is given: keypoints' features, then the noise's, per image. -/
def kFeats (x0 : Vec F S16x128x128x128 .f32) (x1 : IVec S16x128x2 32) (x3 : IVec S16x128 32) : Vec F S16x2x128x128 .f32 :=
  transpose S16x2x128x128 [0, 2, 1, 3] (shapeCast S16x128x2x128 (kGathered x0 x1 x3) shapeCasts_S16x128x256_S16x128x2x128)
    transposes_S16x128x2x128_S16x2x128x128_0_2_1_3

end

theorem ker_place (x1 : IVec SP 32) (x3 : IVec SQ 32) (n : Fin 16) (k : Fin 256) : kPlaces x1 x3 (ix2 n k) = place x1 x3 n k := by
  unfold kPlaces
  pointwise
  rfl

theorem ker_start (x1 : IVec SP 32) (x3 : IVec SQ 32) (n : Fin 16) (k : Fin 256) : kStarts x1 x3 (ix3 n k 0) = wrap (place x1 x3 n k) := by
  rw [← ker_place]
  unfold kStarts kPlaces1
  pointwise
  rfl

theorem ker_inMap (x1 : IVec SP 32) (x3 : IVec SQ 32) (n : Fin 16) (k : Fin 256) : kInMap x1 x3 (ix2 n k) = inMap (wrap (place x1 x3 n k)) := by
  rw [← ker_place]
  unfold kInMap kStarts kPlaces1
  pointwise
  exact fold_one _

theorem ker_map (x0 : FVec Ideal SX .f32) (n : Fin 16) (c : Fin 128) (j : Fin 16384) :
    shapeCast S16x128x16384 x0 shapeCasts_S16x128x128x128_S16x128x16384 (ix3 n c j)
      = x0 (ix4 n c ⟨j.val / 128, by omega⟩ ⟨j.val % 128, by omega⟩) := by
  refine shapeCast_apply x0 shapeCasts_S16x128x128x128_S16x128x16384 _ _ ?_
  rewrite [Shape.rowMajor_val_four, Shape.rowMajor_val_three]
  show ((n.val * 128 + c.val) * 128 + j.val / 128) * 128 + j.val % 128 = (n.val * 128 + c.val) * 16384 + j.val
  omega

theorem ker_gathered (x0 : FVec Ideal SX .f32) (x1 : IVec SP 32) (x3 : IVec SQ 32) (n : Fin 16) (c : Fin 128) (k : Fin 256) :
    kGathered (F := Ideal) x0 x1 x3 (ix3 n c k) = feat x0 x1 x3 n k c := by
  have e : kGathered (F := Ideal) x0 x1 x3 (ix3 n c k)
      = Scalar.select (kInMap x1 x3 (ix2 n k)) (Host.gather gather_S16x128x16384_S16x256x1_S16x128x256_1_2_0_0_2_2_11281
          (shapeCast S16x128x16384 x0 shapeCasts_S16x128x128x128_S16x128x16384) (kStarts x1 x3) (ix3 n c k)) (Ideal.ofBits .f32 2143289344#32) := by
    unfold kGathered
    pointwise
  rw [e, ker_inMap, ker_gather, ker_start, ker_map]
  rfl

/-- The array the kernel is given, at an index. -/
theorem ker_feat (x0 : FVec Ideal SX .f32) (x1 : IVec SP 32) (x3 : IVec SQ 32) (n : Fin 16) (p : Fin 2) (c k : Fin 128) :
    kFeats (F := Ideal) x0 x1 x3 (ix4 n p c k) = feat x0 x1 x3 n ⟨p.val * 128 + k.val, by omega⟩ c := by
  rw [← ker_gathered]
  unfold kFeats
  rw [transpose_apply [0, 2, 1, 3] _ _ _ (ix4 n c p k) (fun b => by fin_cases b <;> rfl)]
  refine shapeCast_apply _ shapeCasts_S16x128x256_S16x128x2x128 _ _ ?_
  rewrite [Shape.rowMajor_val_four, Shape.rowMajor_val_three]
  show (n.val * 128 + c.val) * 256 + (p.val * 128 + k.val) = ((n.val * 128 + c.val) * 2 + p.val) * 128 + k.val
  omega

end Kernel

end Cert.Features

end
-- ==== Proof.Logits.lean ====
/- The loss as plain mathematics over the extended reals: the rows of similarities, the mask that is taken off them, and the
   loss made of their cross entropies. Both programs are compared with `loss`. -/
module

public import proofs.«01_k».proof.Proof.Rows
public import proofs.«01_k».proof.Proof.Features

@[expose] public section

noncomputable section

namespace Cert.Logits

open Idealize.ShloMosaic Cert.Rows Cert.Features
open scoped BigOperators

/-- The word the running greatest starts from is the least extended real. -/
theorem start_bot : Ideal.ofBits .f32 4286578688#32 = ⊥ := by
  simp [Ideal.ofBits, Ideal.ieee]

/-! ## The mask -/

/-- One on the diagonal, zero off it. -/
def eye (k r : Fin 128) : EReal := if k = r then 1 else 0

theorem eye_real (k r : Fin 128) : Real' (eye k r) := by
  unfold eye; split
  · exact Real'.one
  · exact Real'.zero

theorem word_eq (k r : Fin 128) : IntOp.cmpi .eq (BitVec.ofNat 32 k.val) (BitVec.ofNat 32 r.val) = if k = r then 1#1 else 0#1 := by
  have : (BitVec.ofNat 32 k.val = BitVec.ofNat 32 r.val) ↔ k = r := by
    rw [← BitVec.toNat_inj, BitVec.toNat_ofNat, BitVec.toNat_ofNat, Fin.ext_iff]
    have := k.isLt; have := r.isLt
    omega
  by_cases h : k = r
  · subst h; simp [IntOp.cmpi]
  · have h' := mt this.mp h
    rw [if_neg h]
    show BitVec.ofBool (BitVec.ofNat 32 k.val == BitVec.ofNat 32 r.val) = 0#1
    rw [beq_eq_false_iff_ne.mpr h']
    rfl

/-- The kernel's diagonal: the comparison widened and read as a signed integer. -/
theorem eye_signed (k r : Fin 128) :
    FloatOps.sitofp (F := Ideal) .f32 (BitVec.setWidth 32 (IntOp.cmpi .eq (BitVec.ofNat 32 k.val) (BitVec.ofNat 32 r.val))) = eye k r := by
  rw [word_eq]
  unfold eye
  split
  · show (((BitVec.setWidth 32 1#1).toInt : ℝ) : EReal) = 1
    rw [show (BitVec.setWidth 32 1#1).toInt = 1 by decide]; simp
  · show (((BitVec.setWidth 32 0#1).toInt : ℝ) : EReal) = 0
    rw [show (BitVec.setWidth 32 0#1).toInt = 0 by decide]; simp

/-- The reference's diagonal: the comparison read as an unsigned integer. -/
theorem eye_unsigned (k r : Fin 128) :
    FloatOps.uitofp (F := Ideal) .f32 (IntOp.cmpi .eq (BitVec.ofNat 32 k.val) (BitVec.ofNat 32 r.val)) = eye k r := by
  rw [word_eq]
  unfold eye
  split
  · show (((1#1).toNat : ℝ) : EReal) = 1
    simp
  · show (((0#1).toNat : ℝ) : EReal) = 0
    simp

/-- The sum of a row against row `k` of the diagonal is entry `k` of the row. -/
theorem eye_sum (k : Fin 128) (f : Fin 128 → EReal) : ∑ r, f r * eye k r = f k := by
  rw [Finset.sum_eq_single k]
  · simp [eye]
  · intro r _ hr
    simp [eye, Ne.symm hr]
  · intro h; exact absurd (Finset.mem_univ k) h

/-- A keypoint's mask entry: the table's entry, with the diagonal struck out. -/
def mask (x5 : IVec ⟨3, ![1, 128, 128]⟩ 32) (k r : Fin 128) : EReal :=
  FloatOps.sitofp (F := Ideal) .f32 (x5 (ix3 0 k r)) * (1 - eye k r)

theorem sitofp_real (b : BitVec 32) : Real' (FloatOps.sitofp (F := Ideal) .f32 b) := ⟨(b.toInt : ℝ), rfl⟩

theorem mask_real (x5 : IVec ⟨3, ![1, 128, 128]⟩ 32) (k r : Fin 128) : Real' (mask x5 k r) :=
  (sitofp_real _).mul (Real'.one.sub (eye_real k r))

/-! ## The masked rows -/

/-- A row of similarities less its mask: the first 384 entries lose the mask's entry at the same place modulo 128, weighted;
    the others lose a constant. -/
def logits (s : Fin 2432 → EReal) (w : Fin 128 → EReal) (x : Fin 2432) : EReal :=
  s x - if x.val < 384 then w ⟨x.val % 128, Nat.mod_lt _ (by decide)⟩ * cMask else cNeg

theorem logits_real {s : Fin 2432 → EReal} {w : Fin 128 → EReal} (hs : ∀ x, Real' (s x)) (hw : ∀ k, Real' (w k)) (x : Fin 2432) :
    Real' (logits s w x) := by
  unfold logits
  refine (hs x).sub ?_
  split
  · exact (hw _).mul cMask_real
  · exact cNeg_real

/-- The row piece by piece, as the kernel joins it. -/
theorem logits_pieces (s : Fin 2432 → EReal) (w : Fin 128 → EReal) :
    (fun x : Fin 2432 => if h : x.val < 128 then s x - w ⟨x.val, h⟩ * cMask
      else if h : x.val - 128 < 128 then s ⟨128 + (x.val - 128), by omega⟩ - w ⟨x.val - 128, h⟩ * cMask
      else if h : x.val - 128 - 128 < 128 then s ⟨256 + (x.val - 128 - 128), by omega⟩ - w ⟨x.val - 128 - 128, h⟩ * cMask
      else s ⟨384 + (x.val - 128 - 128 - 128), by omega⟩ - cNeg) = logits s w := by
  funext x
  have hx := x.isLt
  unfold logits
  split
  · rename_i h
    rw [if_pos (by omega : x.val < 384)]
    congr 3; exact Fin.ext (show x.val = x.val % 128 by omega)
  · split
    · rename_i h
      rw [if_pos (by omega : x.val < 384), show (⟨128 + (x.val - 128), by omega⟩ : Fin 2432) = x from Fin.ext (by show 128 + (x.val - 128) = x.val; omega)]
      congr 3; exact Fin.ext (show x.val - 128 = x.val % 128 by omega)
    · split
      · rename_i h
        rw [if_pos (by omega : x.val < 384), show (⟨256 + (x.val - 128 - 128), by omega⟩ : Fin 2432) = x from Fin.ext (by show 256 + (x.val - 128 - 128) = x.val; omega)]
        congr 3; exact Fin.ext (show x.val - 128 - 128 = x.val % 128 by omega)
      · rw [if_neg (by omega : ¬ x.val < 384), show (⟨384 + (x.val - 128 - 128 - 128), by omega⟩ : Fin 2432) = x from Fin.ext (by show 384 + (x.val - 128 - 128 - 128) = x.val; omega)]

/-- Keypoint `k`'s place in the bank. -/
abbrev label (k : Fin 128) : Fin 2432 := ⟨k.val, by omega⟩

/-- Entry `k` of a masked row. -/
theorem logits_label (s : Fin 2432 → EReal) (w : Fin 128 → EReal) (k : Fin 128) : logits s w (label k) = s (label k) - w k * cMask := by
  unfold logits
  rw [if_pos (show (label k).val < 384 by show k.val < 384; omega)]
  congr 3; exact Fin.ext (show k.val % 128 = k.val by omega)

/-- The cross entropy of a masked row at label `k`. -/
def nll (s : Fin 2432 → EReal) (w : Fin 128 → EReal) (k : Fin 128) : EReal := lse (logits s w) - logits s w (label k)

/-! ## The loss -/

section
variable (x0 : FVec Ideal SX .f32) (x1 : IVec SP 32) (x2 : FVec Ideal SQ .f32) (x3 : IVec SQ 32)
  (x4 : FVec Ideal ⟨2, ![2432, 128]⟩ .f32) (x5 : IVec ⟨3, ![1, 128, 128]⟩ 32)

/-- The normalised feature at place `p` of image `n`. -/
def nfeat (n : Fin 16) (p : Fin 256) (c : Fin 128) : EReal := unit (feat x0 x1 x3 n p) c

/-- The similarities of place `p` of image `n` with the rows of the bank. -/
def simRow (n : Fin 16) (p : Fin 256) (r : Fin 2432) : EReal := sim (nfeat x0 x1 x3 n p) fun c => x4 (ix2 r c)

theorem simRow_real (h4 : ∀ r c, Real' (x4 (ix2 r c))) (n : Fin 16) (p : Fin 256) (r : Fin 2432) : Real' (simRow x0 x1 x3 x4 n p r) :=
  sim_real (fun c => unit_real _ c) (h4 r)

/-- The keypoint's place among the positions. -/
abbrev kpAt (k : Fin 128) : Fin 256 := ⟨k.val, by omega⟩
/-- The noise position's place among the positions. -/
abbrev nzAt (k : Fin 128) : Fin 256 := ⟨128 + k.val, by omega⟩

/-- A keypoint's weighted cross entropy. -/
def numTerm (n : Fin 16) (k : Fin 128) : EReal := nll (simRow x0 x1 x3 x4 n (kpAt k)) (mask x5 k) k * x2 (ix2 n k)

/-- A noise position's term: the log of the sum of the exponentials of its similarities with the first 384 rows. -/
def nzTerm (n : Fin 16) (k : Fin 128) : EReal := lse fun r : Fin 384 => simRow x0 x1 x3 x4 n (nzAt k) ⟨r.val, by omega⟩

/-- The loss. -/
def loss : EReal :=
  Ideal.div (∑ n, ∑ k, numTerm x0 x1 x2 x3 x4 x5 n k) (max (Ideal.ofBits .f32 897988541#32) (∑ n, ∑ k, x2 (ix2 n k)))
    + Ideal.div (∑ n, ∑ k, nzTerm x0 x1 x3 x4 n k) (Ideal.ofBits .f32 0x45000000#32)
end

end Cert.Logits
-- ==== Proof.Block.lean ====
/- What one call of the kernel body leaves in its three accumulators: the contents found there, plus this image's
   per-keypoint terms. At the first grid point the contents found are the zeros just stored. -/
module

public import proofs.«01_k».proof.Proof.Gen.KernelIdeal.Frame
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The keypoint features of a feature block: its first plane. -/
abbrev kpPlane (x0 : Vec F S1x2x128x128 .f32) : Vec F S1x1x128x128 .f32 :=
  View.ld x0 (Rect.unit (s := S1x2x128x128) ![0, 0, 0, 0] S1x1x128x128.size inb_S1x2x128x128_S1x1x128x128_0_0_0_0)
/-- The noise features of a feature block: its second plane. -/
abbrev nzPlane (x0 : Vec F S1x2x128x128 .f32) : Vec F S1x1x128x128 .f32 :=
  View.ld x0 (Rect.unit (s := S1x2x128x128) ![0, 1, 0, 0] S1x1x128x128.size inb_S1x2x128x128_S1x1x128x128_0_1_0_0)

/-- The numerator accumulator after one image, from what it held. -/
abbrev numStep (x0 : Vec F S1x2x128x128 .f32) (x1 : Vec F S2432x128 .f32) (x2 : Vec F S128x128 .f32)
    (x3 : Vec F S1x128x1 .f32) (xo : Vec F S128x1 .f32) : Vec F S128x1 .f32 :=
  k0_pay10 (k0_pay6 (kpPlane x0) x1) k0_pay7 (k0_pay8 x2) x3 xo
/-- The visibility accumulator after one image, from what it held. -/
abbrev visStep (x3 : Vec F S1x128x1 .f32) (xo : Vec F S128x1 .f32) : Vec F S128x1 .f32 := k0_pay11 x3 xo
/-- The noise accumulator after one image, from what it held. -/
abbrev nzStep (x0 : Vec F S1x2x128x128 .f32) (x1 : Vec F S2432x128 .f32) (xo : Vec F S128x1 .f32) : Vec F S128x1 .f32 :=
  k0_pay1 (k0_pay12 (k0_pay5 (nzPlane x0)) x1) k0_pay13 xo

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a1 : Memref sig .tc .vmem S1x2x128x128 .f32) (h1 : a1.IsWhole)
  (a2 : Memref sig .tc .vmem S2432x128 .f32) (h2 : a2.IsWhole) (a3 : Memref sig .tc .vmem S128x128 .f32) (h3 : a3.IsWhole)
  (a4 : Memref sig .tc .vmem S1x128x1 .f32) (h4 : a4.IsWhole) (a5 : Memref sig .tc .vmem S128x1 .f32) (h5 : a5.IsWhole)
  (a6 : Memref sig .tc .vmem S128x1 .f32) (h6 : a6.IsWhole) (a7 : Memref sig .tc .vmem S128x1 .f32) (h7 : a7.IsWhole)
  (x0 : Vec F S1x2x128x128 .f32) (x1 : Vec F S2432x128 .f32) (x2 : Vec F S128x128 .f32) (x3 : Vec F S1x128x1 .f32)
  (xo4 xo5 xo6 : Vec F S128x1 .f32)

/-- At a later point the numerator accumulator is advanced by this image. -/
theorem later_num (hc : ¬cond0_0 i) :
    out0_B_4 c i a1 h1 a2 h2 a3 h3 a4 h4 a5 h5 a6 h6 a7 h7 hc x0 x1 x2 x3 xo4 xo5 xo6 = numStep x0 x1 x2 x3 xo4 := by
  unfold out0_B_4
  rw [View.read_writes_eq_canon _ _ _ (cover0_B_4 c i a1 h1 a2 h2 a3 h3 a4 h4 a5 h5 a6 h6 a7 h7 hc x0 x1 x2 x3 xo4 xo5 xo6)]
  unfold kernelRun0_B
  dsimp only
  sl_unfold_words
  rw [View.canon_unit_zero (S := S128x1) hz2]
  simp only [View.readAt_eq_ld, h1.read_unread, h2.read_unread, h3.read_unread, h4.read_unread, h5.read_unread,
    View.ld_unit_zero (S := S2432x128) hz2, View.ld_unit_zero (S := S128x128) hz2, View.ld_unit_zero (S := S128x1) hz2,
    View.ld_unit_zero (S := S1x128x1) hz3]

/-- At a later point the visibility accumulator is advanced by this image. -/
theorem later_vis (hc : ¬cond0_0 i) :
    out0_B_5 c i a1 h1 a2 h2 a3 h3 a4 h4 a5 h5 a6 h6 a7 h7 hc x0 x1 x2 x3 xo4 xo5 xo6 = visStep x3 xo5 := by
  unfold out0_B_5
  rw [View.read_writes_eq_canon _ _ _ (cover0_B_5 c i a1 h1 a2 h2 a3 h3 a4 h4 a5 h5 a6 h6 a7 h7 hc x0 x1 x2 x3 xo4 xo5 xo6)]
  unfold kernelRun0_B
  dsimp only
  sl_unfold_words
  rw [View.canon_unit_zero (S := S128x1) hz2]
  simp only [View.readAt_eq_ld, h4.read_unread, h6.read_unread,
    View.ld_unit_zero (S := S128x1) hz2, View.ld_unit_zero (S := S1x128x1) hz3]

/-- At a later point the noise accumulator is advanced by this image. -/
theorem later_nz (hc : ¬cond0_0 i) :
    out0_B_6 c i a1 h1 a2 h2 a3 h3 a4 h4 a5 h5 a6 h6 a7 h7 hc x0 x1 x2 x3 xo4 xo5 xo6 = nzStep x0 x1 xo6 := by
  unfold out0_B_6
  rw [View.read_writes_eq_canon _ _ _ (cover0_B_6 c i a1 h1 a2 h2 a3 h3 a4 h4 a5 h5 a6 h6 a7 h7 hc x0 x1 x2 x3 xo4 xo5 xo6)]
  unfold kernelRun0_B
  dsimp only
  sl_unfold_words
  rw [View.canon_unit_zero (S := S128x1) hz2]
  simp only [View.readAt_eq_ld, h1.read_unread, h2.read_unread, h7.read_unread,
    View.ld_unit_zero (S := S2432x128) hz2, View.ld_unit_zero (S := S128x1) hz2]

/-- At the first point the numerator accumulator is this image's terms over zeros. -/
theorem first_num (hc : cond0_0 i) :
    out0_A_4 c i a1 h1 a2 h2 a3 h3 a4 h4 a5 h5 a6 h6 a7 h7 hc x0 x1 x2 x3 = numStep x0 x1 x2 x3 k0_pay2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_cons_unit_zero (S := S128x1) hz2]
  simp only [View.readCov_unit_zero (S := S128x1) _ hz2, View.readAt_eq_ld, h1.read_unread, h2.read_unread, h3.read_unread, h4.read_unread,
    View.ld_unit_zero (S := S2432x128) hz2, View.ld_unit_zero (S := S128x128) hz2, View.ld_unit_zero (S := S128x1) hz2,
    View.ld_unit_zero (S := S1x128x1) hz3]

/-- At the first point the visibility accumulator is this image's terms over zeros. -/
theorem first_vis (hc : cond0_0 i) :
    out0_A_5 c i a1 h1 a2 h2 a3 h3 a4 h4 a5 h5 a6 h6 a7 h7 hc x0 x1 x2 x3 = visStep x3 k0_pay3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S128x1) hz2]
  simp only [View.readCov_unit_zero (S := S128x1) _ hz2, View.readAt_eq_ld, h4.read_unread,
    View.ld_unit_zero (S := S128x1) hz2, View.ld_unit_zero (S := S1x128x1) hz3]

/-- At the first point the noise accumulator is this image's terms over zeros. -/
theorem first_nz (hc : cond0_0 i) :
    out0_A_6 c i a1 h1 a2 h2 a3 h3 a4 h4 a5 h5 a6 h6 a7 h7 hc x0 x1 x2 x3 = nzStep x0 x1 k0_pay4 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S128x1) hz2]
  simp only [View.readCov_unit_zero (S := S128x1) _ hz2, View.readAt_eq_ld, h1.read_unread, h2.read_unread,
    View.ld_unit_zero (S := S2432x128) hz2, View.ld_unit_zero (S := S128x1) hz2]
end

end Cert.KernelIdeal.Block

end
-- ==== Proof.Steps.lean ====
/- What one image adds to each accumulator, as plain mathematics: a keypoint's weighted cross entropy, its weight, and a noise
   position's log of a sum of exponentials. -/
module

public import proofs.«01_k».proof.Proof.Logits
public import proofs.«01_k».proof.Proof.Block
public import Idealize.ShloMosaic.Lib.Pointwise
public import Idealize.ShloMosaic.Lib.ValueIdx

@[expose] public section

noncomputable section

namespace Cert.KernelIdeal.Steps

open Idealize.ShloMosaic Idealize.ShloMosaic.TcCoe Idealize.SL.Sem
open Cert.KernelIdeal Cert.KernelIdeal.Gen Cert.KernelIdeal.Block Cert.Rows Cert.Logits
open scoped BigOperators

theorem zero_num (k : Fin 128) : k0_pay2 (F := Ideal) (ix2 k 0) = 0 := by
  unfold k0_pay2
  pointwise
theorem zero_vis (k : Fin 128) : k0_pay3 (F := Ideal) (ix2 k 0) = 0 := by
  unfold k0_pay3
  pointwise
theorem zero_nz (k : Fin 128) : k0_pay4 (F := Ideal) (ix2 k 0) = 0 := by
  unfold k0_pay4
  pointwise

/-- The diagonal. -/
theorem eye_at (k r : Fin 128) : k0_pay7 (F := Ideal) (ix2 k r) = eye k r := by
  rw [← eye_signed]
  unfold k0_pay7
  pointwise

/-- The table with its diagonal struck out. -/
theorem strike_at (x : Vec Ideal S128x128 .f32) (k r : Fin 128) : k0_pay8 x (ix2 k r) = x (ix2 k r) * (1 - eye k r) := by
  rw [← eye_at]
  unfold k0_pay8
  pointwise

/-- A normalised feature. -/
theorem unit_at (x : Vec Ideal S1x1x128x128 .f32) (ch k : Fin 128) :
    k0_pay5 x (ix2 ch k) = unit (fun c => x (ix4 0 0 c k)) ch := by
  unfold k0_pay5
  pointwise
  rfl

/-- A keypoint's similarity with a row of the bank. -/
theorem sim_at (x : Vec Ideal S1x1x128x128 .f32) (b : Vec Ideal S2432x128 .f32) (k : Fin 128) (r : Fin 2432) :
    k0_pay6 x b (ix2 k r) = sim (unit fun c => x (ix4 0 0 c k)) fun c => b (ix2 r c) := by
  unfold k0_pay6
  pointwise
  rfl

/-- A noise position's product with one of the first 384 rows of the bank. -/
theorem dot_at (x : FVec Ideal S128x128 .f32) (b : Vec Ideal S2432x128 .f32) (k : Fin 128) (r : Fin 384) :
    k0_pay12 x b (ix2 k r) = ∑ c, x (ix2 c k) * b (ix2 ⟨r.val, by omega⟩ c) := by
  unfold k0_pay12
  pointwise

theorem temp_at (k : Fin 128) (r : Fin 384) : k0_pay13 (F := Ideal) (ix2 k r) = cTemp := by
  unfold k0_pay13
  pointwise

/-- The numerator's advance over rows of reals. -/
theorem num_pay (a : FVec Ideal S128x2432 .f32) (b c : FVec Ideal S128x128 .f32) (d : Vec Ideal S1x128x1 .f32) (e : Vec Ideal S128x1 .f32)
    (k : Fin 128) (ha : ∀ r, Real' (a (ix2 k r))) (hc : ∀ r, Real' (c (ix2 k r))) (hb : ∀ r, b (ix2 k r) = eye k r) :
    k0_pay10 a b c d e (ix2 k 0) = e (ix2 k 0) + nll (fun r => a (ix2 k r)) (fun r => c (ix2 k r)) k * d (ix3 0 k 0) := by
  have hl := logits_real ha hc
  have e1 : k0_pay10 a b c d e (ix2 k 0) = e (ix2 k 0) +
      (Ideal.log (∑ x, Ideal.exp (logits (fun r => a (ix2 k r)) (fun r => c (ix2 k r)) x - Finset.fold max (Ideal.ofBits .f32 4286578688#32) (logits (fun r => a (ix2 k r)) (fun r => c (ix2 k r))) Finset.univ))
        + Finset.fold max (Ideal.ofBits .f32 4286578688#32) (logits (fun r => a (ix2 k r)) (fun r => c (ix2 k r))) Finset.univ
        - ∑ x, logits (fun r => a (ix2 k r)) (fun r => c (ix2 k r)) (label x) * b (ix2 k x)) * d (ix3 0 k 0) := by
    simp only [logits_label]
    rw [← logits_pieces]
    unfold k0_pay10 k0_pay9
    pointwise
  rw [e1, start_bot]
  have e2 : ∑ x, logits (fun r => a (ix2 k r)) (fun r => c (ix2 k r)) (label x) * b (ix2 k x)
      = logits (fun r => a (ix2 k r)) (fun r => c (ix2 k r)) (label k) := by
    simp only [hb]
    exact eye_sum k fun x => logits (fun r => a (ix2 k r)) (fun r => c (ix2 k r)) (label x)
  rw [e2]
  have e3 := lse_shift _ hl (label k) (top_real _ hl (label k))
  unfold top at e3
  rw [e3]
  rfl

/-- The noise's advance over rows of reals. -/
theorem nz_pay (a b : FVec Ideal S128x384 .f32) (e : Vec Ideal S128x1 .f32) (k : Fin 128)
    (h : ∀ r, Real' (Ideal.div (a (ix2 k r)) (b (ix2 k r)))) :
    k0_pay1 a b e (ix2 k 0) = e (ix2 k 0) + lse fun r => Ideal.div (a (ix2 k r)) (b (ix2 k r)) := by
  rw [← lse_shift _ h 0 (top_real _ h 0)]
  unfold top
  rw [← start_bot]
  unfold k0_pay1
  pointwise

section
variable (x0 : Vec Ideal S1x2x128x128 .f32) (x1 : Vec Ideal S2432x128 .f32) (x2 : Vec Ideal S128x128 .f32) (x3 : Vec Ideal S1x128x1 .f32)
  (xo : Vec Ideal S128x1 .f32) (k : Fin 128)

/-- One image's advance of the numerator. -/
theorem num_step (h1 : ∀ r c, Real' (x1 (ix2 r c))) (h2 : ∀ k r, Real' (x2 (ix2 k r))) :
    numStep x0 x1 x2 x3 xo (ix2 k 0) = xo (ix2 k 0)
      + nll (fun r => sim (unit fun c => kpPlane x0 (ix4 0 0 c k)) fun c => x1 (ix2 r c)) (fun r => x2 (ix2 k r) * (1 - eye k r)) k
        * x3 (ix3 0 k 0) := by
  unfold numStep
  rw [num_pay _ _ _ _ _ k (fun r => by rw [sim_at]; exact sim_real (fun c => unit_real _ c) (h1 r))
    (fun r => by rw [strike_at]; exact (h2 k r).mul (Real'.one.sub (eye_real k r))) (fun r => eye_at k r)]
  simp only [sim_at, strike_at]

/-- One image's advance of the visibility sum. -/
theorem vis_step : visStep x3 xo (ix2 k 0) = xo (ix2 k 0) + x3 (ix3 0 k 0) := by
  unfold visStep k0_pay11 k0_pay9
  pointwise

/-- One image's advance of the noise sum. -/
theorem nz_step (h1 : ∀ r c, Real' (x1 (ix2 r c))) :
    nzStep x0 x1 xo (ix2 k 0) = xo (ix2 k 0)
      + lse fun r : Fin 384 => sim (unit fun c => nzPlane x0 (ix4 0 0 c k)) fun c => x1 (ix2 ⟨r.val, by omega⟩ c) := by
  have e : ∀ r : Fin 384, Ideal.div (k0_pay12 (k0_pay5 (nzPlane x0)) x1 (ix2 k r)) (k0_pay13 (F := Ideal) (ix2 k r))
      = sim (unit fun c => nzPlane x0 (ix4 0 0 c k)) fun c => x1 (ix2 ⟨r.val, by omega⟩ c) := by
    intro r
    rw [dot_at, temp_at]
    simp only [unit_at]
    rfl
  unfold nzStep
  rw [nz_pay _ _ _ k fun r => by rw [e]; exact sim_real (fun c => unit_real _ c) (h1 _)]
  simp only [e]
end

end Cert.KernelIdeal.Steps
-- ==== Proof.Entry.lean ====
/- What the arrays hold when the kernel is launched: the gathered features, the visibility table and the keypoints' weights, and
   what one grid point reads of each of them. -/
module

public import proofs.«01_k».proof.Proof.Features

@[expose] public section

noncomputable section

namespace Cert.KernelIdeal.Entry

open Idealize.ShloMosaic Idealize.ShloMosaic.TcCoe Idealize.SL.Sem
open Cert.KernelIdeal Cert.KernelIdeal.Gen Cert.Features

section
variable {F : FTy → Type} [FloatOps F]

/-- A line of operations after another one is the second line run from what the first one leaves. -/
theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons a l ih => exact ih _

/-- The start indices from the positions along a unit axis. -/
def startsOf (p : IVec S16x1x256 32) : IVec S16x256x1 32 :=
  shapeCast S16x256x1 (select (cmpi .slt p (broadcastInDim S16x1x256 ![] bcast_S_S16x1x256 (constantI S_ 32 0#32)))
      (addi p (broadcastInDim S16x1x256 ![] bcast_S_S16x1x256 (constantI S_ 32 16384#32))) p)
    shapeCasts_S16x1x256_S16x256x1

/-- Whether the start indices lie in the map. -/
def inMapOf (s : IVec S16x256x1 32) : IVec S16x256 1 :=
  Host.reduce IntOp.andi
    (andi (cmpi .sge s (broadcastInDim S16x256x1 ![] bcast_S_S16x256x1 (constantI S_ 32 0#32)))
      (cmpi .sle s (broadcastInDim S16x256x1 ![0, 1, 2] bcast_S1x1x1_S16x256x1_0_1_2
        (broadcastInDim S1x1x1 ![2] bcast_S1_S1x1x1_2 (constantI S1 32 16383#32)))))
    (constantI S_ 1 1#1) reducesTo_S16x256x1_S16x256_d2 h_S_

/-- The gathered array from the flattened map and the positions. -/
def gatheredOf (x : Vec F S16x128x16384 .f32) (p : IVec S16x1x256 32) : Vec F S16x128x256 .f32 :=
  select (broadcastInDim S16x128x256 ![0, 2] bcast_S16x256_S16x128x256_0_2 (inMapOf (startsOf p)))
    (Host.gather gather_S16x128x16384_S16x256x1_S16x128x256_1_2_0_0_2_2_11281 x (startsOf p))
    (broadcastInDim S16x128x256 ![] bcast_S_S16x128x256 (constant S_ .f32 0x7FC00000#32))

variable (W : Valuation τ sig (Elt F))

/-- The first line leaves the positions. -/
theorem line0_places : StableHlo.after hostOps0 W (Proc.devRef .tc main_v9)
    = kPlaces1 (W (Proc.devRef .tc main_arg1)) (W (Proc.devRef .tc main_arg3)) := by
  unfold hostOps0
  after_results_simp
  rfl

/-- The first line leaves the flattened map. -/
theorem line0_map : StableHlo.after hostOps0 W (Proc.devRef .tc main_v8)
    = shapeCast S16x128x16384 (W (Proc.devRef .tc main_arg0)) shapeCasts_S16x128x128x128_S16x128x16384 := by
  unfold hostOps0
  after_results_simp
  rfl

/-- The second line gathers. -/
theorem line1_gathered : StableHlo.after hostOps0_1 W (Proc.devRef .tc main_v10)
    = gatheredOf (W (Proc.devRef .tc main_v8)) (W (Proc.devRef .tc main_v9)) := by
  unfold hostOps0_1
  after_results_simp
  rfl

/-- The third line puts the images' two feature planes side by side. -/
theorem line2_feats : StableHlo.after hostOps0_2 W (Proc.devRef .tc main_v12)
    = transpose S16x2x128x128 [0, 2, 1, 3] (shapeCast S16x128x2x128 (W (Proc.devRef .tc main_v10)) shapeCasts_S16x128x256_S16x128x2x128)
        transposes_S16x128x2x128_S16x2x128x128_0_2_1_3 := by
  unfold hostOps0_2
  after_results_simp
  rfl

/-- The third line converts the visibility table. -/
theorem line2_table : StableHlo.after hostOps0_2 W (Proc.devRef .tc main_v14)
    = sitofp .f32 (shapeCast S128x128 (W (Proc.devRef .tc main_arg5)) shapeCasts_S1x128x128_S128x128) := by
  unfold hostOps0_2
  after_results_simp
  rfl

/-- The third line gives the weights a unit axis. -/
theorem line2_weights : StableHlo.after hostOps0_2 W (Proc.devRef .tc main_v15)
    = broadcastInDim S16x128x1 ![0, 1] bcast_S16x128_S16x128x1_0_1 (W (Proc.devRef .tc main_arg2)) := by
  unfold hostOps0_2
  after_results_simp

theorem line1_arg5 : StableHlo.after hostOps0_1 W (Proc.devRef .tc main_arg5) = W (Proc.devRef .tc main_arg5) := by
  unfold hostOps0_1
  after_results_simp

theorem line0_arg5 : StableHlo.after hostOps0 W (Proc.devRef .tc main_arg5) = W (Proc.devRef .tc main_arg5) := by
  unfold hostOps0
  after_results_simp

theorem line1_arg2 : StableHlo.after hostOps0_1 W (Proc.devRef .tc main_arg2) = W (Proc.devRef .tc main_arg2) := by
  unfold hostOps0_1
  after_results_simp

theorem line0_arg2 : StableHlo.after hostOps0 W (Proc.devRef .tc main_arg2) = W (Proc.devRef .tc main_arg2) := by
  unfold hostOps0
  after_results_simp

variable (m : (ℓ : Loc nD τ sig) → Buf (Elt F) ℓ)

/-- The lines before the kernel, one after the other. -/
theorem V_lines (c : Dev nD) (b : Ref sig .tc) : V m c b
    = StableHlo.after hostOps0_2 (StableHlo.after hostOps0_1 (StableHlo.after hostOps0 fun b => m (c, b))) (Proc.devRef .tc b) := by
  rw [← after_two, ← after_two]
  rfl

/-- The kernel's first array: the gathered features. -/
theorem V_feats (c : Dev nD) : V m c main_v12 = kFeats (m (c, main_arg0)) (m (c, main_arg1)) (m (c, main_arg3)) := by
  rw [V_lines, line2_feats, line1_gathered, line0_places, line0_map]
  rfl

/-- The kernel's third array: the visibility table as floats. -/
theorem V_table (c : Dev nD) : V m c main_v14
    = sitofp .f32 (shapeCast S128x128 (m (c, main_arg5)) shapeCasts_S1x128x128_S128x128) := by
  rw [V_lines, line2_table, line1_arg5, line0_arg5]

/-- The kernel's fourth array: the weights with a unit axis. -/
theorem V_weights (c : Dev nD) : V m c main_v15
    = broadcastInDim S16x128x1 ![0, 1] bcast_S16x128_S16x128x1_0_1 (m (c, main_arg2)) := by
  rw [V_lines, line2_weights, line1_arg2, line0_arg2]

end

end Cert.KernelIdeal.Entry
-- ==== Proof.Reads.lean ====
/- What one grid point reads of each of the kernel's arrays, index by index. -/
module

public import proofs.«01_k».proof.Proof.Entry
public import proofs.«01_k».proof.Proof.Block
public import Idealize.ShloMosaic.Lib.Pipeline.ValueKit
public import Idealize.ShloMosaic.Lib.Pointwise
public import Idealize.ShloMosaic.Lib.ValueIdx

@[expose] public section

noncomputable section

namespace Cert.KernelIdeal.Reads

open Idealize.ShloMosaic Idealize.ShloMosaic.TcCoe Idealize.SL.Sem
open Cert.KernelIdeal Cert.KernelIdeal.Gen Cert.KernelIdeal.Block Cert.KernelIdeal.Entry Cert.Features

/-- The image of a grid point. -/
def img (t : Fin cfg0.N) : Fin 16 := ⟨t.val, t.isLt.trans_eq N_0⟩

/-- The first array's block at a point is that image's. -/
theorem idx0 : ∀ t : Fin cfg0.N, win0_0.index t = ![(img t).val, 0, 0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![(img t).val, 0, 0] := by decide +kernel

section
variable {F : FTy → Type} [FloatOps F]
variable (m : (ℓ : Loc nD τ sig) → Buf (Elt F) ℓ) (c : Dev nD) (t : Fin cfg0.N)

theorem blk0 (p : Fin 2) (ch k : Fin 128) :
    iblk m c 0 t (ix4 0 p ch k) = V m c main_v12 (ix4 (img t) p ch k) := by
  blk_ext [iblk, idx0 t]

theorem blk1 (r : Fin 2432) (k : Fin 128) : iblk m c 1 t (ix2 r k) = V m c main_arg4 (ix2 r k) := by
  blk_ext [iblk, idx1 t]

theorem blk2 (r : Fin 128) (k : Fin 128) : iblk m c 2 t (ix2 r k) = V m c main_v14 (ix2 r k) := by
  blk_ext [iblk, idx2 t]

theorem blk3 (k : Fin 128) : iblk m c 3 t (ix3 0 k 0) = V m c main_v15 (ix3 (img t) k 0) := by
  blk_ext [iblk, idx3 t]

theorem kp_plane (x : Vec F S1x2x128x128 .f32) (ch k : Fin 128) : kpPlane x (ix4 0 0 ch k) = x (ix4 0 0 ch k) := by
  unfold kpPlane
  rw [View.ld_apply]
  congr 1
  funext a
  match a with
  | ⟨0, _⟩ => rfl
  | ⟨1, _⟩ => rfl
  | ⟨2, _⟩ => exact Fin.ext (by show 0 + 1 * ch.val = ch.val; omega)
  | ⟨3, _⟩ => exact Fin.ext (by show 0 + 1 * k.val = k.val; omega)

theorem nz_plane (x : Vec F S1x2x128x128 .f32) (ch k : Fin 128) : nzPlane x (ix4 0 0 ch k) = x (ix4 0 1 ch k) := by
  unfold nzPlane
  rw [View.ld_apply]
  congr 1
  funext a
  match a with
  | ⟨0, _⟩ => rfl
  | ⟨1, _⟩ => rfl
  | ⟨2, _⟩ => exact Fin.ext (by show 0 + 1 * ch.val = ch.val; omega)
  | ⟨3, _⟩ => exact Fin.ext (by show 0 + 1 * k.val = k.val; omega)
end

/-! ## Over the extended reals -/

variable (m : (ℓ : Loc nD τ sig) → Buf (Elt Ideal) ℓ) (c : Dev nD) (t : Fin cfg0.N)

/-- The keypoints' features of the point's image. -/
theorem read_kp (ch k : Fin 128) : kpPlane (iblk m c 0 t) (ix4 0 0 ch k)
    = feat (m (c, main_arg0)) (m (c, main_arg1)) (m (c, main_arg3)) (img t) ⟨k.val, by omega⟩ ch := by
  rw [kp_plane, blk0, V_feats, ker_feat]
  exact congrArg (fun q => feat _ _ _ (img t) q ch) (Fin.ext (by show 0 * 128 + k.val = k.val; omega))

/-- The noise positions' features of the point's image. -/
theorem read_nz (ch k : Fin 128) : nzPlane (iblk m c 0 t) (ix4 0 0 ch k)
    = feat (m (c, main_arg0)) (m (c, main_arg1)) (m (c, main_arg3)) (img t) ⟨128 + k.val, by omega⟩ ch := by
  rw [nz_plane, blk0, V_feats, ker_feat]
  exact congrArg (fun q => feat _ _ _ (img t) q ch) (Fin.ext (by show 1 * 128 + k.val = 128 + k.val; omega))

/-- The bank. -/
theorem read_bank (r : Fin 2432) (k : Fin 128) : iblk m c 1 t (ix2 r k) = m (c, main_arg4) (ix2 r k) := by
  rw [blk1, V_main_arg4]

/-- A float table at an index, from the integer table. -/
theorem table_at (x : IVec S1x128x128 32) (k r : Fin 128) :
    sitofp (F := Ideal) .f32 (shapeCast S128x128 x shapeCasts_S1x128x128_S128x128) (ix2 k r) = FloatOps.sitofp (F := Ideal) .f32 (x (ix3 0 k r)) := by
  pointwise

/-- The visibility table, as floats. -/
theorem read_table (k r : Fin 128) : iblk m c 2 t (ix2 k r) = FloatOps.sitofp (F := Ideal) .f32 (m (c, main_arg5) (ix3 0 k r)) := by
  rw [blk2, V_table]
  exact table_at _ k r

/-- The weights of the point's image. -/
theorem read_weight (k : Fin 128) : iblk m c 3 t (ix3 0 k 0) = m (c, main_arg2) (ix2 (img t) k) := by
  rw [blk3, V_weights]
  pointwise

end Cert.KernelIdeal.Reads
-- ==== Proof.Arrays.lean ====
/- What the three result arrays of the kernel hold when the grid is done: the per-image steps folded over the sixteen
   images in order, and what the lines after the kernel make of them. -/
module

public import proofs.«01_k».proof.Proof.Block
public import Idealize.ShloMosaic.Lib.Pipeline.Value
public import Idealize.ShloMosaic.Lib.StableHlo.Run

@[expose] public section

noncomputable section

namespace Cert.KernelIdeal.Arrays

open Cert.KernelIdeal Cert.KernelIdeal.Gen Cert.KernelIdeal.Block
open Idealize.ShloMosaic Idealize.ShloMosaic.TcCoe Idealize.SL.Sem

variable {F : FTy → Type} [FloatOps F]
variable (m : (ℓ : Loc nD τ sig) → Buf (Elt F) ℓ) (ρ : Dev nD → PrngReg)

/-- The numerator accumulator after point `n`. -/
def numAt (c : Dev nD) : (n : ℕ) → n < cfg0.N → Vec F S128x1 .f32
  | 0, h => numStep (iblk m c 0 ⟨0, h⟩) (iblk m c 1 ⟨0, h⟩) (iblk m c 2 ⟨0, h⟩) (iblk m c 3 ⟨0, h⟩) k0_pay2
  | n + 1, h => numStep (iblk m c 0 ⟨n + 1, h⟩) (iblk m c 1 ⟨n + 1, h⟩) (iblk m c 2 ⟨n + 1, h⟩) (iblk m c 3 ⟨n + 1, h⟩)
      (numAt c n (Nat.lt_of_succ_lt h))
/-- The visibility accumulator after point `n`. -/
def visAt (c : Dev nD) : (n : ℕ) → n < cfg0.N → Vec F S128x1 .f32
  | 0, h => visStep (iblk m c 3 ⟨0, h⟩) k0_pay3
  | n + 1, h => visStep (iblk m c 3 ⟨n + 1, h⟩) (visAt c n (Nat.lt_of_succ_lt h))
/-- The noise accumulator after point `n`. -/
def nzAt (c : Dev nD) : (n : ℕ) → n < cfg0.N → Vec F S128x1 .f32
  | 0, h => nzStep (iblk m c 0 ⟨0, h⟩) (iblk m c 1 ⟨0, h⟩) k0_pay4
  | n + 1, h => nzStep (iblk m c 0 ⟨n + 1, h⟩) (iblk m c 1 ⟨n + 1, h⟩) (nzAt c n (Nat.lt_of_succ_lt h))

/-- The staging buffers after point `n` hold the three folds. -/
theorem outsAt_eq (c : Dev nD) : ∀ (n : ℕ) (h : n < cfg0.N), outsAt0 m c n h = (numAt m c n h, visAt m c n h, nzAt m c n h)
  | 0, h => by
    rw [outsAt0_A m c ⟨0, h⟩ rfl, first_num, first_vis, first_nz]
    rfl
  | n + 1, h => by
    have hN : cfg0.N = 16 := N_0
    have hB : ¬(⟨n + 1, h⟩ : Fin cfg0.N).val % 16 = 0 := by dsimp only; omega
    rw [outsAt0_B m c ⟨n + 1, h⟩ hB, later_num, later_vis, later_nz]
    have e : outsAt0 m c ((⟨n + 1, h⟩ : Fin cfg0.N).val - 1) (Nat.lt_of_le_of_lt (Nat.sub_le _ _) (⟨n + 1, h⟩ : Fin cfg0.N).isLt)
        = (numAt m c n (Nat.lt_of_succ_lt h), visAt m c n (Nat.lt_of_succ_lt h), nzAt m c n (Nat.lt_of_succ_lt h)) :=
      outsAt_eq c n (Nat.lt_of_succ_lt h)
    rw [e]
    rfl

theorem lt15 : 15 < cfg0.N := by rw [show cfg0.N = 16 from N_0]; decide
/-- The last grid point. -/
abbrev tLast : Fin cfg0.N := ⟨15, lt15⟩

theorem eq_last (t : Fin cfg0.N) (h : t.val % 16 = 15) : t = tLast := by
  have hN : cfg0.N = 16 := N_0
  have := t.isLt
  exact Fin.ext (show t.val = 15 by omega)

/-- The numerator array ends holding the fold over all sixteen points. -/
theorem final_num (c : Dev nD) : (dats m 0 c).arrAt 4 cfg0.N = numAt m c 15 lt15 :=
  (dats m 0 c).arrAt_eq_of_cover 4 (numAt m c 15 lt15)
    (fun t hf => by
      obtain rfl := eq_last t ((flush0_4 t).mp hf)
      show (cfg0.win 4).cut (grid0.coords tLast) ((dats m 0 c).after 4 tLast) = _
      rw [after0_4, outsAt_eq]
      have hz' : (fun a => win0_4.index tLast a * main_v16_0.ty.shape.size a) = fun _ => 0 := funext fun a => by fin_cases a <;> decide +kernel
      exact (Memref.read_access_unit_zero (Elt F) main_v16_0 hz' (fun a => by rw [congrFun hz' a]; simp) (numAt m c 15 lt15)).symm)
    fun i => ⟨tLast, (flush0_4 tLast).mpr rfl, by
      show i ∈ ((View.whole main_v16_0).slice (win0_4.rect tLast)).set
      rw [View.set_slice_whole, Rect.mem_set_unit]
      intro a
      have h0 : (i 0 : Nat) < 128 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 128 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The visibility array ends holding the fold over all sixteen points. -/
theorem final_vis (c : Dev nD) : (dats m 0 c).arrAt 5 cfg0.N = visAt m c 15 lt15 :=
  (dats m 0 c).arrAt_eq_of_cover 5 (visAt m c 15 lt15)
    (fun t hf => by
      obtain rfl := eq_last t ((flush0_5 t).mp hf)
      show (cfg0.win 5).cut (grid0.coords tLast) ((dats m 0 c).after 5 tLast) = _
      rw [after0_5, outsAt_eq]
      have hz' : (fun a => win0_5.index tLast a * main_v16_1.ty.shape.size a) = fun _ => 0 := funext fun a => by fin_cases a <;> decide +kernel
      exact (Memref.read_access_unit_zero (Elt F) main_v16_1 hz' (fun a => by rw [congrFun hz' a]; simp) (visAt m c 15 lt15)).symm)
    fun i => ⟨tLast, (flush0_5 tLast).mpr rfl, by
      show i ∈ ((View.whole main_v16_1).slice (win0_5.rect tLast)).set
      rw [View.set_slice_whole, Rect.mem_set_unit]
      intro a
      have h0 : (i 0 : Nat) < 128 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 128 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The noise array ends holding the fold over all sixteen points. -/
theorem final_nz (c : Dev nD) : (dats m 0 c).arrAt 6 cfg0.N = nzAt m c 15 lt15 :=
  (dats m 0 c).arrAt_eq_of_cover 6 (nzAt m c 15 lt15)
    (fun t hf => by
      obtain rfl := eq_last t ((flush0_6 t).mp hf)
      show (cfg0.win 6).cut (grid0.coords tLast) ((dats m 0 c).after 6 tLast) = _
      rw [after0_6, outsAt_eq]
      have hz' : (fun a => win0_6.index tLast a * main_v16_2.ty.shape.size a) = fun _ => 0 := funext fun a => by fin_cases a <;> decide +kernel
      exact (Memref.read_access_unit_zero (Elt F) main_v16_2 hz' (fun a => by rw [congrFun hz' a]; simp) (nzAt m c 15 lt15)).symm)
    fun i => ⟨tLast, (flush0_6 tLast).mpr rfl, by
      show i ∈ ((View.whole main_v16_2).slice (win0_6.rect tLast)).set
      rw [View.set_slice_whole, Rect.mem_set_unit]
      intro a
      have h0 : (i 0 : Nat) < 128 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 128 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- What the lines after the kernel compute of its three arrays: the sum of the first over the clipped sum of the
    second, plus the sum of the third divided by 128 and by 16. -/
abbrev tailOf (a b d : Vec F S128x1 .f32) : Vec F S_ .f32 :=
  addf
    (Host.divf (Host.reduceAdd a (constant S_ .f32 0x00000000#32) reducesTo_S128x1_S_d0_1 h_S_)
      (maximumf (constant S_ .f32 0x358637BD#32) (Host.reduceAdd b (constant S_ .f32 0x00000000#32) reducesTo_S128x1_S_d0_1 h_S_)))
    (Host.divf (Host.divf (Host.reduceAdd d (constant S_ .f32 0x00000000#32) reducesTo_S128x1_S_d0_1 h_S_)
      (constant S_ .f32 0x43000000#32)) (constant S_ .f32 0x41800000#32))

theorem arr_inj : Function.Injective (Pipeline.arrRef spec0) := by decide

/-- The lines after the kernel leave at the result what `tailOf` makes of the three arrays. -/
theorem tail_eq (c : Dev nD) :
    Pipeline.afterTail₀ cfgs (dats m) 0 (V0 m) [hostOps1, hostOps1_1, hostOps1_2] c main_v24
      = tailOf (numAt m c 15 lt15) (visAt m c 15 lt15) (nzAt m c 15 lt15) := by
  unfold Pipeline.afterTail₀
  rw [← final_num, ← final_vis, ← final_nz]
  have e4 := Pipeline.withArrays_arr (τ := τ) spec0 arr_inj c (V0 m c) (fun w => (dats m 0 c).arrAt w cfg0.N) 4
  have e5 := Pipeline.withArrays_arr (τ := τ) spec0 arr_inj c (V0 m c) (fun w => (dats m 0 c).arrAt w cfg0.N) 5
  have e6 := Pipeline.withArrays_arr (τ := τ) spec0 arr_inj c (V0 m c) (fun w => (dats m 0 c).arrAt w cfg0.N) 6
  rw [← e4, ← e5, ← e6]
  generalize hA : Pipeline.withArrays (τ := τ) spec0 c (V0 m c) (fun w => (dats m 0 c).arrAt w cfg0.N) = W
  simp only [hostOps1, hostOps1_1, hostOps1_2, List.flatten_cons, List.flatten_nil, List.append_nil, List.cons_append, List.nil_append]
  after_results
  rfl

end Cert.KernelIdeal.Arrays

end
-- ==== Proof.Totals.lean ====
/- The kernel's three accumulators after the sixteen images are sums over the images, and what the lines after the kernel make of
   them is the loss. -/
module

public import proofs.«01_k».proof.Proof.Steps
public import proofs.«01_k».proof.Proof.Reads
public import proofs.«01_k».proof.Proof.Arrays

@[expose] public section

noncomputable section

namespace Cert.KernelIdeal.Totals

open Idealize.ShloMosaic Idealize.ShloMosaic.TcCoe Idealize.SL.Sem
open Cert.KernelIdeal Cert.KernelIdeal.Gen Cert.KernelIdeal.Block Cert.KernelIdeal.Arrays Cert.KernelIdeal.Reads Cert.KernelIdeal.Steps
open Cert.Rows Cert.Logits Cert.Features
open scoped BigOperators

/-- A running value that starts at the first term and adds one term per point is the sum of the terms. -/
theorem running_sum (N : ℕ) (f : (n : ℕ) → n < N → EReal) (T : Fin N → EReal) (h0 : ∀ h, f 0 h = T ⟨0, h⟩)
    (hs : ∀ n h, f (n + 1) h = f n (Nat.lt_of_succ_lt h) + T ⟨n + 1, h⟩) :
    ∀ n (h : n < N), f n h = ∑ i : Fin (n + 1), T ⟨i.val, by omega⟩ := by
  intro n
  induction n with
  | zero => intro h; rw [h0]; exact (Fin.sum_univ_one fun i : Fin 1 => T ⟨i.val, by omega⟩).symm
  | succ n ih => intro h; rw [hs, ih, Fin.sum_univ_castSucc (n := n + 1)]; rfl

variable (m : (ℓ : Loc nD τ sig) → Buf (Elt Ideal) ℓ) (c : Dev nD)

section
variable (h4 : ∀ (r : Fin 2432) (k : Fin 128), Real' (m (c, main_arg4) (ix2 r k)))
include h4

/-- One point's advance of the numerator, in terms of the arguments. -/
theorem num_adv (t : Fin cfg0.N) (xo : Vec Ideal S128x1 .f32) (k : Fin 128) :
    numStep (iblk m c 0 t) (iblk m c 1 t) (iblk m c 2 t) (iblk m c 3 t) xo (ix2 k 0)
      = xo (ix2 k 0) + numTerm (m (c, main_arg0)) (m (c, main_arg1)) (m (c, main_arg2)) (m (c, main_arg3)) (m (c, main_arg4)) (m (c, main_arg5)) (img t) k := by
  rw [num_step _ _ _ _ _ k (fun r q => by rw [read_bank]; exact h4 r q) (fun k r => by rw [read_table]; exact sitofp_real _)]
  simp only [read_kp, read_bank, read_table, read_weight]
  rfl

/-- One point's advance of the noise sum, in terms of the arguments. -/
theorem nz_adv (t : Fin cfg0.N) (xo : Vec Ideal S128x1 .f32) (k : Fin 128) :
    nzStep (iblk m c 0 t) (iblk m c 1 t) xo (ix2 k 0)
      = xo (ix2 k 0) + nzTerm (m (c, main_arg0)) (m (c, main_arg1)) (m (c, main_arg3)) (m (c, main_arg4)) (img t) k := by
  rw [nz_step _ _ _ k (fun r q => by rw [read_bank]; exact h4 r q)]
  simp only [read_nz, read_bank]
  rfl

/-- The numerator accumulator at the end. -/
theorem num_total (k : Fin 128) : numAt m c 15 lt15 (ix2 k 0)
    = ∑ n : Fin 16, numTerm (m (c, main_arg0)) (m (c, main_arg1)) (m (c, main_arg2)) (m (c, main_arg3)) (m (c, main_arg4)) (m (c, main_arg5)) n k :=
  running_sum cfg0.N (fun n h => numAt m c n h (ix2 k 0))
    (fun t => numTerm (m (c, main_arg0)) (m (c, main_arg1)) (m (c, main_arg2)) (m (c, main_arg3)) (m (c, main_arg4)) (m (c, main_arg5)) (img t) k)
    (fun h => by
      show numStep _ _ _ _ k0_pay2 (ix2 k 0) = _
      rw [num_adv m c h4, zero_num, zero_add])
    (fun n h => num_adv m c h4 ⟨n + 1, h⟩ _ k) 15 lt15

/-- The noise accumulator at the end. -/
theorem nz_total (k : Fin 128) : nzAt m c 15 lt15 (ix2 k 0)
    = ∑ n : Fin 16, nzTerm (m (c, main_arg0)) (m (c, main_arg1)) (m (c, main_arg3)) (m (c, main_arg4)) n k :=
  running_sum cfg0.N (fun n h => nzAt m c n h (ix2 k 0))
    (fun t => nzTerm (m (c, main_arg0)) (m (c, main_arg1)) (m (c, main_arg3)) (m (c, main_arg4)) (img t) k)
    (fun h => by
      show nzStep _ _ k0_pay4 (ix2 k 0) = _
      rw [nz_adv m c h4, zero_nz, zero_add])
    (fun n h => nz_adv m c h4 ⟨n + 1, h⟩ _ k) 15 lt15
end

/-- The weights. -/
def weights : FVec Ideal SQ .f32 := m (c, main_arg2)

/-- One point's advance of the visibility sum, in terms of the arguments. -/
theorem vis_adv (t : Fin cfg0.N) (xo : Vec Ideal S128x1 .f32) (k : Fin 128) :
    visStep (iblk m c 3 t) xo (ix2 k 0) = xo (ix2 k 0) + weights m c (ix2 (img t) k) := by
  rw [vis_step, read_weight]
  rfl

/-- The visibility accumulator at the end. -/
theorem vis_total (k : Fin 128) : visAt m c 15 lt15 (ix2 k 0) = ∑ n : Fin 16, weights m c (ix2 n k) :=
  running_sum cfg0.N (fun n h => visAt m c n h (ix2 k 0)) (fun t => weights m c (ix2 (img t) k))
    (fun h => by
      show visStep _ k0_pay3 (ix2 k 0) = _
      rw [vis_adv m c, zero_vis, zero_add])
    (fun n h => vis_adv m c ⟨n + 1, h⟩ _ k) 15 lt15

/-- Dividing by 128 and then by 16 is dividing by 2048. -/
theorem div_twice (x : EReal) : Ideal.div (Ideal.div x (Ideal.ofBits .f32 0x43000000#32)) (Ideal.ofBits .f32 0x41800000#32)
    = Ideal.div x (Ideal.ofBits .f32 0x45000000#32) := by
  have e1 : Ideal.ofBits .f32 0x43000000#32 = ((128 : ℝ) : EReal) := by simp [Ideal.ofBits, Ideal.ieee, -EReal.coe_mul]; norm_num
  have e2 : Ideal.ofBits .f32 0x41800000#32 = ((16 : ℝ) : EReal) := by simp [Ideal.ofBits, Ideal.ieee, -EReal.coe_mul]; norm_num
  have e3 : Ideal.ofBits .f32 0x45000000#32 = ((2048 : ℝ) : EReal) := by simp [Ideal.ofBits, Ideal.ieee, -EReal.coe_mul]; norm_num
  rw [e1, e2, e3, Ideal.div_coe (by norm_num), Ideal.div_coe (by norm_num), Ideal.div_coe (by norm_num), mul_assoc, ← EReal.coe_mul]
  norm_num

/-- The lines after the kernel, over three arrays: sums, the clipped quotient and the mean. -/
theorem tail_at (a b d : Vec Ideal S128x1 .f32) (i : S_.Idx) : tailOf a b d i
    = Ideal.div (∑ k : Fin 128, a (ix2 k 0)) (max (Ideal.ofBits .f32 897988541#32) (∑ k : Fin 128, b (ix2 k 0)))
      + Ideal.div (Ideal.div (∑ k : Fin 128, d (ix2 k 0)) (Ideal.ofBits .f32 0x43000000#32)) (Ideal.ofBits .f32 0x41800000#32) := by
  have e : ∀ v : Vec Ideal S128x1 .f32, ∑ k : Fin 128, (v (ix2 k 0) : EReal) = ∑ k : Fin 128, ∑ j : Fin 1, v (ix2 k j) := fun v =>
    Finset.sum_congr rfl fun k _ => (Fin.sum_univ_one fun j : Fin 1 => (v (ix2 k j) : EReal)).symm
  rw [e, e, e]
  unfold tailOf
  pointwise

/-- The kernel's result is the loss. -/
theorem result (h4 : ∀ (r : Fin 2432) (k : Fin 128), Real' (m (c, main_arg4) (ix2 r k))) (i : S_.Idx) :
    tailOf (numAt m c 15 lt15) (visAt m c 15 lt15) (nzAt m c 15 lt15) i
      = loss (m (c, main_arg0)) (m (c, main_arg1)) (m (c, main_arg2)) (m (c, main_arg3)) (m (c, main_arg4)) (m (c, main_arg5)) := by
  rw [tail_at, div_twice]
  simp only [num_total m c h4, vis_total m c, nz_total m c h4]
  unfold loss
  rw [Finset.sum_comm, Finset.sum_comm (f := fun (k : Fin 128) (n : Fin 16) => weights m c (ix2 n k)),
    Finset.sum_comm (f := fun (k : Fin 128) (n : Fin 16) => nzTerm (m (c, main_arg0)) (m (c, main_arg1)) (m (c, main_arg3)) (m (c, main_arg4)) n k)]
  rfl

end Cert.KernelIdeal.Totals
-- ==== Proof.Reference.lean ====
/- What the reference computes, index by index, down to the loss as plain mathematics. -/
module

public import proofs.«01_k».proof.Proof.Logits
public import proofs.«01_k».proof.Proof.Gen.ReferenceIdeal.Read
public import Idealize.ShloMosaic.Lib.Pointwise
public import Idealize.ShloMosaic.Lib.ValueIdx

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Rows Cert.Logits Cert.Features
open scoped BigOperators

variable (x0 : FVec Ideal SX .f32) (x1 : IVec SP 32) (x2 : FVec Ideal SQ .f32) (x3 : IVec SQ 32)
  (x4 : FVec Ideal ⟨2, ![2432, 128]⟩ .f32) (x5 : IVec ⟨3, ![1, 128, 128]⟩ 32)

/-- The normalised features. -/
theorem unit_at (n : Fin 16) (p : Fin 256) (c : Fin 128) : val_main_v16 (F := Ideal) x0 x1 x3 (ix3 n p c) = nfeat x0 x1 x3 n p c := by
  unfold nfeat unit
  simp only [← ref_feat]
  unfold val_main_v16 val_main_v15 val_main_v14 val_main_call2_v1 val_main_call2_v0 val_main_cst val_main_v13 val_main_call1_v2
    val_main_call1_v1 val_main_call1_v0 val_main_call1_cst
  pointwise
  exact congrArg _ (max_comm _ _)

/-- The similarities. -/
theorem sim_at (n : Fin 16) (k : Fin 128) (r : Fin 2432) :
    val_main_v21 (F := Ideal) x0 x1 x3 x4 (ix3 n k r) = simRow x0 x1 x3 x4 n (kpAt k) r := by
  unfold simRow sim
  simp only [← unit_at]
  unfold val_main_v21 val_main_v20 val_main_v19 val_main_v17 val_main_cst_0
  pointwise

/-- The visibility table with its diagonal struck out. -/
theorem mask_at (k r : Fin 128) : val_main_v32 (F := Ideal) x5 (ix3 0 k r) = mask x5 k r := by
  unfold mask
  rw [← eye_unsigned]
  unfold val_main_v32 val_main_v31 val_main_v30 val_main_v29 val_main_v28 val_main_v27 val_main_v26 val_main_v25 val_main_v24 val_main_v23
    val_main_v22 val_main_c_1 val_main_cst_2
  pointwise
  rw [show IntOp.addi (BitVec.ofNat 32 k.val) 0#32 = BitVec.ofNat 32 k.val from BitVec.add_zero _]

/-- The masks joined. -/
theorem masks_at (k : Fin 128) (r : Fin 2432) : val_main_v42 (F := Ideal) x5 (ix3 0 k r)
    = if r.val < 384 then mask x5 k ⟨r.val % 128, Nat.mod_lt _ (by decide)⟩ * cMask else cNeg := by
  rw [← cNeg_flip]
  simp only [← mask_at]
  unfold val_main_v42 val_main_v41 val_main_v40 val_main_v39 val_main_v38 val_main_v37 val_main_v36 val_main_v35 val_main_v34 val_main_v33
    val_main_cst_3 val_main_cst_4 val_main_cst_5
  pointwise
  rfl

/-- The masked rows. -/
theorem logits_at (n : Fin 16) (k : Fin 128) (r : Fin 2432) :
    val_main_v44 (F := Ideal) x0 x1 x3 x4 x5 (ix3 n k r) = logits (simRow x0 x1 x3 x4 n (kpAt k)) (mask x5 k) r := by
  unfold logits
  rw [← masks_at, ← sim_at]
  unfold val_main_v44 val_main_v43
  pointwise

/-- A row's greatest entry. -/
theorem max_at (v : FVec Ideal S16x128x2432 .f32) (n : Fin 16) (k : Fin 128) :
    Host.reduce FloatOps.maximumf v (constant S_ .f32 0xFF800000#32) reducesTo_S16x128x2432_S16x128_d2 h_S_ (ix2 n k)
      = top fun r => v (ix3 n k r) := by
  unfold top
  rw [← start_bot]
  pointwise

/-- The shift of the log-softmax: the row's greatest entry. -/
theorem shift_at (n : Fin 16) (k : Fin 128) : val_main_call3_v2 (F := Ideal) x0 x1 x3 x4 x5 (ix2 n k)
    = top (logits (simRow x0 x1 x3 x4 n (kpAt k)) (mask x5 k)) := by
  have e : val_main_call3_v0 (F := Ideal) x0 x1 x3 x4 x5 (ix2 n k) = top (logits (simRow x0 x1 x3 x4 n (kpAt k)) (mask x5 k)) :=
    (max_at _ n k).trans (congrArg top (funext fun r => logits_at x0 x1 x3 x4 x5 n k r))
  rw [val_main_call3_v2_apply, e]
  show max (Ideal.ofBits .f32 4286578688#32) _ = _
  rw [start_bot]
  exact max_eq_right bot_le

/-- The log-softmax of a masked row. -/
theorem logsoft_at (n : Fin 16) (k : Fin 128) (r : Fin 2432) : val_main_v46 (F := Ideal) x0 x1 x3 x4 x5 (ix3 n k r)
    = (logits (simRow x0 x1 x3 x4 n (kpAt k)) (mask x5 k) r - top (logits (simRow x0 x1 x3 x4 n (kpAt k)) (mask x5 k)))
      - Ideal.log (∑ x, Ideal.exp (logits (simRow x0 x1 x3 x4 n (kpAt k)) (mask x5 k) x
          - top (logits (simRow x0 x1 x3 x4 n (kpAt k)) (mask x5 k)))) := by
  simp only [← logits_at, ← shift_at]
  unfold val_main_v46 val_main_call3_v10 val_main_call3_v9 val_main_call3_v8 val_main_call3_v7 val_main_call3_v6 val_main_call3_v5
    val_main_call3_v4 val_main_call3_v3 val_main_call3_cst_1
  pointwise

/-! ## The label's entry -/

/-- The reading of one entry per row: the row's entry at the clamped index. -/
theorem pick_at {α : Type} (x : S16x128x2432.Idx → α) (idx : IVec S16x128x1x1 32) (n : Fin 16) (k : Fin 128) :
    Host.gather gather_S16x128x2432_S16x128x1x1_S16x128x1_n_2_01_01_2_3_111 x idx (ix3 n k 0)
      = x (ix3 n k ⟨min (idx (ix4 n k 0 0)).toInt.toNat 2431, by omega⟩) := by
  show x _ = x _
  congr 1
  have hs : ∀ q, (gather_S16x128x2432_S16x128x1x1_S16x128x1_n_2_01_01_2_3_111).siIdx (ix3 n k 0) q = ix4 n k 0 0 := by
    intro q
    funext b
    match b with
    | ⟨0, _⟩ => rfl
    | ⟨1, _⟩ => rfl
    | ⟨2, _⟩ => rfl
    | ⟨3, _⟩ => exact Subsingleton.elim (α := Fin 1) _ _
  funext a
  match a with
  | ⟨0, _⟩ => exact Fin.ext (by show 0 + n.val + 0 = n.val; omega)
  | ⟨1, _⟩ => exact Fin.ext (by show 0 + k.val + 0 = k.val; omega)
  | ⟨2, _⟩ => exact Fin.ext (by
      show min (idx ((gather_S16x128x2432_S16x128x1x1_S16x128x1_n_2_01_01_2_3_111).siIdx (ix3 n k 0) _)).toInt.toNat 2431 + 0 + 0 = _
      rw [hs]
      rfl)

/-- The label's word, as the reference wraps it. -/
def labelWord (k : Fin 128) : BitVec 32 :=
  Scalar.select (IntOp.cmpi .slt (BitVec.ofNat 32 k.val) 0#32) (IntOp.addi (BitVec.ofNat 32 k.val) 2432#32) (BitVec.ofNat 32 k.val)

theorem labelWord_eq : ∀ k : Fin 128, labelWord k = BitVec.ofNat 32 k.val := by decide +kernel
theorem labelWord_in : ∀ k : Fin 128, IntOp.andi (IntOp.cmpi .sge (labelWord k) 0#32) (IntOp.cmpi .sle (labelWord k) 2431#32) = 1#1 := by
  decide +kernel
theorem labelWord_cell : ∀ k : Fin 128, min (labelWord k).toInt.toNat 2431 = k.val := by decide +kernel

theorem word_at (n : Fin 16) (k : Fin 128) : val_main_call4_v5 (F := Ideal) (ix4 n k 0 0) = labelWord k := by
  unfold labelWord val_main_call4_v5 val_main_call4_v4 val_main_call4_v3 val_main_call4_v2 val_main_call4_v1 val_main_call4_v0
    val_main_call4_c val_main_call4_c_0 val_main_v48 val_main_v47 val_main_v45
  pointwise

/-- The conjunction over an axis of one entry is that entry. -/
theorem and_at (v : IVec S16x128x1x1 1) (n : Fin 16) (k : Fin 128) :
    Host.reduce IntOp.andi v (constantI S_ 1 1#1) reducesTo_S16x128x1x1_S16x128x1_d3 h_S_ (ix3 n k (0 : Fin 1)) = v (ix4 n k (0 : Fin 1) (0 : Fin 1)) := by
  pointwise
  exact fold_one (v (ix4 n k (0 : Fin 1) (0 : Fin 1)))

/-- Every label lies in the row. -/
theorem inside_at (n : Fin 16) (k : Fin 128) : val_main_call4_v12 (F := Ideal) (ix3 n k (0 : Fin 1)) = 1#1 := by
  have e : val_main_call4_v11 (F := Ideal) (ix4 n k (0 : Fin 1) (0 : Fin 1)) = 1#1 := by
    rw [← labelWord_in k, ← word_at n k]
    unfold val_main_call4_v11 val_main_call4_v10 val_main_call4_v9 val_main_call4_v8 val_main_call4_v7 val_main_call4_v6
      val_main_call4_c_1 val_main_call4_c_2
    pointwise
  exact (and_at _ n k).trans e

/-- One entry per row, read at the label. -/
theorem pick_label {α : Type} (x : S16x128x2432.Idx → α) (idx : IVec S16x128x1x1 32) (n : Fin 16) (k : Fin 128)
    (h : idx (ix4 n k (0 : Fin 1) (0 : Fin 1)) = labelWord k) :
    Host.gather gather_S16x128x2432_S16x128x1x1_S16x128x1_n_2_01_01_2_3_111 x idx (ix3 n k (0 : Fin 1)) = x (ix3 n k (label k)) := by
  rw [pick_at]
  refine congrArg (fun q => x (ix3 n k q)) (Fin.ext ?_)
  show min (idx (ix4 n k (0 : Fin 1) (0 : Fin 1))).toInt.toNat 2431 = k.val
  rw [h, labelWord_cell]

theorem select_true {α : Type} (a b : α) : Scalar.select 1#1 a b = a := rfl

/-- A unit axis dropped. -/
theorem drop_at (v : FVec Ideal S16x128x1 .f32) (n : Fin 16) (k : Fin 128) :
    shapeCast S16x128 v shapeCasts_S16x128x1_S16x128 (ix2 n k) = v (ix3 n k (0 : Fin 1)) := by
  pointwise

/-- The log-softmax at the label. -/
theorem picked_at (n : Fin 16) (k : Fin 128) :
    val_main_v50 (F := Ideal) x0 x1 x3 x4 x5 (ix2 n k) = val_main_v46 (F := Ideal) x0 x1 x3 x4 x5 (ix3 n k (label k)) := by
  have e : val_main_v49 (F := Ideal) x0 x1 x3 x4 x5 (ix3 n k (0 : Fin 1)) = val_main_v46 (F := Ideal) x0 x1 x3 x4 x5 (ix3 n k (label k)) := by
    rw [val_main_v49_apply, inside_at, select_true]
    exact pick_label _ _ n k (word_at n k)
  exact (drop_at _ n k).trans e

/-! ## The two sums -/

section
variable (h4 : ∀ r c, Real' (x4 (ix2 r c)))
include h4

/-- A keypoint's weighted cross entropy. -/
theorem num_at (n : Fin 16) (k : Fin 128) :
    val_main_v52 (F := Ideal) x0 x1 x2 x3 x4 x5 (ix2 n k) = numTerm x0 x1 x2 x3 x4 x5 n k := by
  have hl := logits_real (simRow_real x0 x1 x3 x4 h4 n (kpAt k)) (mask_real x5 k)
  unfold numTerm nll
  rw [← nll_eq _ hl (label k) (top_real _ hl (label k)), ← logsoft_at, ← picked_at]
  unfold val_main_v52 val_main_v51
  pointwise
end

/-- A noise position's term. -/
theorem nz_at (n : Fin 16) (k : Fin 128) : val_main_v63 (F := Ideal) x0 x1 x3 x4 (ix2 n k) = nzTerm x0 x1 x3 x4 n k := by
  unfold nzTerm lse simRow sim
  simp only [← unit_at]
  unfold val_main_v63 val_main_v62 val_main_v61 val_main_v60 val_main_v59 val_main_v58 val_main_v57 val_main_v18 val_main_cst_9 val_main_cst_10
  pointwise

/-- The reference's result is the loss. -/
theorem result (h4 : ∀ r c, Real' (x4 (ix2 r c))) (i : S_.Idx) :
    val_main_v68 (F := Ideal) x0 x1 x2 x3 x4 x5 i = loss x0 x1 x2 x3 x4 x5 := by
  unfold loss
  simp only [← nz_at, ← num_at x0 x1 x2 x3 x4 x5 h4]
  unfold val_main_v68 val_main_v67 val_main_v66 val_main_v65 val_main_v64 val_main_v56 val_main_v55 val_main_v54 val_main_v53 val_main_call5_v0
    val_main_cst_6 val_main_cst_7 val_main_cst_8 val_main_cst_11 val_main_cst_12 val_main_cst_13 val_main_cst_14
  pointwise
  rfl

end Cert.ReferenceIdeal.Value
-- ==== Proof.Runs.lean ====
/- The two runs: both programs end with the loss of their arguments in their result, and their arguments unchanged. -/
module

public import proofs.«01_k».proof.Proof.Totals
public import proofs.«01_k».proof.Proof.Reference
public import proofs.«01_k».proof.Proof.Gen.ReferenceIdeal.Run
public import proofs.«01_k».proof.Proof.Gen.KernelIdeal.Frame
public import Idealize.ShloMosaic.Lib.Claim

@[expose] public section

noncomputable section

open Idealize.ShloMosaic Idealize.ShloMosaic.TcCoe Idealize.SL.Sem Cert.Rows Cert.Logits

namespace Cert.KernelIdeal.Totals

open Cert.KernelIdeal Cert.KernelIdeal.Gen Cert.KernelIdeal.Arrays

variable (m : (ℓ : Loc nD τ sig) → Buf (Elt Ideal) ℓ)

/-- The loss of the kernel's arguments on a device, as an array without axes. -/
def lossOf (c : Dev nD) : FVec Ideal S_ .f32 := fun _ =>
  loss (m (c, main_arg0)) (m (c, main_arg1)) (m (c, main_arg2)) (m (c, main_arg3)) (m (c, main_arg4)) (m (c, main_arg5))

/-- What the lines after the kernel leave in the result is the loss. -/
theorem tail_loss (c : Dev nD) (h4 : ∀ (r : Fin 2432) (k : Fin 128), Real' (m (c, main_arg4) (ix2 r k))) :
    Pipeline.afterTail₀ cfgs (dats m) 0 (V0 m) [hostOps1, hostOps1_1, hostOps1_2] c main_v24 = lossOf m c :=
  (tail_eq m c).trans (funext fun i => result m c h4 i)

/-- The kernel's run: the result is the loss. -/
theorem run_loss (ρ : Dev nD → PrngReg) (h4 : ∀ (c : Dev nD) (r : Fin 2432) (k : Fin 128), Real' (m (c, main_arg4) (ix2 r k))) :
    θ_run defs (onTc (τ := τ) (main (F := Ideal))) ⟨m, fun _ => 0, ρ⟩ (fun r => ∀ c : Dev nD,
      r.2.mem ((c.tc : Thread nD τ).loc main_v24) = lossOf m c) :=
  (θ_run defs _ _).mono (fun _ h c => ((h c).2 main_v24 (Pipeline.mem_restRefs_of main_v24 (by decide) (by decide))).trans
    (tail_loss m c (h4 c))) (run_main m ρ)

end Cert.KernelIdeal.Totals

namespace Cert.ReferenceIdeal.Value

open Cert.ReferenceIdeal Cert.ReferenceIdeal.Gen Cert.ReferenceIdeal.Read

variable (m : (ℓ : Loc nD τ sig) → Buf (Elt Ideal) ℓ)

/-- The loss of the reference's arguments on a device, as an array without axes. -/
def lossOf (c : Dev nD) : FVec Ideal S_ .f32 := fun _ =>
  loss (m (c, main_arg0)) (m (c, main_arg1)) (m (c, main_arg2)) (m (c, main_arg3)) (m (c, main_arg4)) (m (c, main_arg5))

/-- The reference's value at a device's arguments is the loss. -/
theorem value_loss (c : Dev nD) (h4 : ∀ (r : Fin 2432) (k : Fin 128), Real' (m (c, main_arg4) (ix2 r k))) :
    val_main_v68 (F := Ideal) (m (c, main_arg0)) (m (c, main_arg1)) (m (c, main_arg2)) (m (c, main_arg3)) (m (c, main_arg4))
      (m (c, main_arg5)) = lossOf m c :=
  funext fun i => result _ _ _ _ _ _ h4 i

/-- The reference's run: the result is the loss and the arguments are unchanged. -/
theorem run_loss (ρ : Dev nD → PrngReg) (h4 : ∀ (c : Dev nD) (r : Fin 2432) (k : Fin 128), Real' (m (c, main_arg4) (ix2 r k))) :
    θ_run defs (onTc (τ := τ) (main (F := Ideal))) ⟨m, fun _ => 0, ρ⟩ (fun r => ∀ c : Dev nD,
      r.2.mem ((c.tc : Thread nD τ).loc main_v68) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((val_main_v68_eq (StableHlo.launchContents m c)).trans (value_loss m c (h4 c))), (h c).2⟩)
    (run (F := Ideal) m ρ)

end Cert.ReferenceIdeal.Value

end
-- ==== Proof.Finite.lean ====
/- The precondition read back: every entry of the bank is a real number. -/
module

public import proofs.«01_k».proof.Proof.Rows
public import proofs.«01_k».proof.Pre_bank_finite
public import Idealize.ShloMosaic.Lib.ReduceAll
public import Idealize.ShloMosaic.Lib.ValueIdx

@[expose] public section

noncomputable section

namespace Cert.Pre_bank_finite

open Idealize.ShloMosaic Cert.Rows

/-- The side conditions that the precondition's operations state. -/
theorem facts : Facts where
  bcast_S_S2432x128 := by decide
  reducesTo_S2432x128_S_d0_1 := by decide
  h_S_ := by decide

/-- A value whose absolute value is below infinity is a real number. -/
theorem real_of_abs_lt (x : EReal) (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  have hl : max x (-x) < ⊤ := by
    by_contra hn
    simp [Ideal.cmp, hn] at h
  induction x with
  | bot => simp at hl
  | top => simp at hl
  | coe r => exact ⟨r, rfl⟩

/-- Where the precondition is true, every entry of the bank is a real number. -/
theorem bank_real [Facts] (x0 : FVec Ideal S16x128x128x128 .f32) (x1 : IVec S16x128x2 32) (x2 : FVec Ideal S16x128 .f32)
    (x3 : IVec S16x128 32) (x4 : FVec Ideal S2432x128 .f32) (x5 : IVec S1x128x128 32) (h : fn x0 x1 x2 x3 x4 x5 = fun _ => 1#1)
    (i : S2432x128.Idx) : Real' (x4 i) := by
  haveI : Subsingleton S_.Idx := ⟨fun a b => funext fun k => k.elim0⟩
  exact real_of_abs_lt _ (Host.reduce_andi_all _ _ _ _ (fun k => k.elim0) (congrFun h _) i)

end Cert.Pre_bank_finite
-- ==== Proof.lean ====
module

public import proofs.«01_k».proof.Defs
public import proofs.«01_k».proof.Proof.Gen.Kernel.Frame
public import proofs.«01_k».proof.Proof.Runs
public import proofs.«01_k».proof.Proof.Finite

@[expose] public section

noncomputable section

namespace Cert.Proof

open Idealize.ShloMosaic Idealize.SL.Sem Cert.Rows

/-- The kernel runs, leaves its arguments unchanged and ends with every counter at zero. -/
theorem frame_kernel : Cert.quiescent_Kernel (hKernel := Cert.Kernel.Gen.facts) := fun m ρ _ => Cert.Kernel.Gen.frame m ρ

/-- So does its ideal form. -/
theorem frame_ideal : Cert.quiescent_KernelIdeal (hKernelIdeal := Cert.KernelIdeal.Gen.facts) :=
  fun m ρ _ => Cert.KernelIdeal.Gen.frame m ρ

/-- So does its ideal form from the memories that the precondition allows. -/
theorem frame_ideal_pre : Cert.quiescent_KernelIdeal_pre_bank_finite (hKernelIdeal := Cert.KernelIdeal.Gen.facts)
    (hPre_bank_finite := Cert.Pre_bank_finite.facts) := fun m ρ _ => Cert.KernelIdeal.Gen.frame m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference from the memories that the precondition allows. -/
theorem frame_reference_pre : Cert.quiescent_ReferenceIdeal_pre_bank_finite (hReferenceIdeal := Cert.ReferenceIdeal.Gen.facts)
    (hPre_bank_finite := Cert.Pre_bank_finite.facts) := fun m ρ _ => frame_reference m ρ trivial

/-- Where the bank is finite, the kernel and the reference end with the same loss. -/
theorem algebraic : Cert.algebraic_KernelIdeal_ReferenceIdeal_pre_bank_finite (hKernelIdeal := Cert.KernelIdeal.Gen.facts)
    (hReferenceIdeal := Cert.ReferenceIdeal.Gen.facts) (hPre_bank_finite := Cert.Pre_bank_finite.facts) := by
  intro m ρ m' ρ' hpre hagree
  have h4 : ∀ (c : Dev Cert.KernelIdeal.nD) (r : Fin 2432) (k : Fin 128),
      Real' (m ((c.tc : Thread Cert.KernelIdeal.nD Cert.KernelIdeal.τ).loc Cert.KernelIdeal.main_arg4) (ix2 r k)) := fun c r k =>
    @Cert.Pre_bank_finite.bank_real Cert.Pre_bank_finite.facts _ _ _ _ _ _ (hpre c) (ix2 r k)
  have h4' : ∀ (c : Dev Cert.ReferenceIdeal.nD) (r : Fin 2432) (k : Fin 128),
      Real' (m' ((c.tc : Thread Cert.ReferenceIdeal.nD Cert.ReferenceIdeal.τ).loc Cert.ReferenceIdeal.main_arg4) (ix2 r k)) := fun c r k => by
    rw [(hagree c).2.2.2.2.1]
    exact h4 c r k
  have hloss : ∀ c : Dev Cert.KernelIdeal.nD, Cert.ReferenceIdeal.Value.lossOf m' c = Cert.KernelIdeal.Totals.lossOf m c := fun c => by
    obtain ⟨e0, e1, e2, e3, e4, e5⟩ := hagree c
    funext _
    show Cert.Logits.loss _ _ _ _ _ _ = Cert.Logits.loss _ _ _ _ _ _
    congr 1
  refine ⟨fun c => Cert.KernelIdeal.Totals.lossOf m c, ?_, ?_⟩
  · exact (θ_run Cert.KernelIdeal.defs _ _).mono (fun r h c => ⟨h.1 c, h.2 c⟩)
      (θ_run_and (Cert.KernelIdeal.Totals.run_loss m ρ h4) (Cert.KernelIdeal.Gen.unchanged m ρ))
  · exact (θ_run Cert.ReferenceIdeal.defs _ _).mono (fun r h c => ⟨(h c).1.trans (hloss c), (h c).2⟩)
      (Cert.ReferenceIdeal.Value.run_loss m' ρ' h4')

/-- Everything that is claimed. -/
theorem claim : Cert.Claim := ⟨Cert.Kernel.Gen.facts, Cert.KernelIdeal.Gen.facts, Cert.ReferenceIdeal.Gen.facts, Cert.Pre_bank_finite.facts,
  frame_kernel, frame_ideal, frame_ideal_pre, frame_reference, frame_reference_pre, trivial, algebraic⟩

end Cert.Proof

end
